-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S72x1x3072 : Shape := ⟨3, ![72, 1, 3072]⟩
abbrev S72x3x2048x96 : Shape := ⟨4, ![72, 3, 2048, 96]⟩
abbrev S72x3x2048x4 : Shape := ⟨4, ![72, 3, 2048, 4]⟩
abbrev S72 : Shape := ⟨1, ![72]⟩
abbrev S_ : Shape := ⟨0, ![]⟩

class Facts : Prop where
  bcast_S_S72x3x2048x4 : S_.BroadcastsInDim S72x3x2048x4 (![] : Fin 0 → Fin S72x3x2048x4.rank)
  reducesTo_S72x3x2048x4_S_d0_1_2_3 : S72x3x2048x4.ReducesTo [0, 1, 2, 3] S_
  h_S_ : 0 < S_.numel

variable [Facts]

def fn {F : FTy → Type} [FloatOps F] (main_arg0 : FVec F S72x1x3072 .bf16) (main_arg1 : IVec S72x3x2048x96 8) (main_arg2 : IVec S72x3x2048x96 8) (main_arg3 : IVec S72x3x2048x4 8) (main_arg4 : IVec S72x3x2048x4 8) (main_arg5 : IVec S72 32) : IVec S_ 1 :=
  let main_c : IVec S_ 8 := constantI S_ 8 1#8
  let main_v0 : IVec S72x3x2048x4 8 := broadcastInDim S72x3x2048x4 ![] bcast_S_S72x3x2048x4 main_c
  let main_v1 : IVec S72x3x2048x4 1 := cmpi .uge main_arg3 main_v0
  let main_c_0 : IVec S_ 8 := constantI S_ 8 254#8
  let main_v2 : IVec S72x3x2048x4 8 := broadcastInDim S72x3x2048x4 ![] bcast_S_S72x3x2048x4 main_c_0
  let main_v3 : IVec S72x3x2048x4 1 := cmpi .ule main_arg3 main_v2
  let main_v4 : IVec S72x3x2048x4 1 := andi main_v1 main_v3
  let main_c_1 : IVec S_ 8 := constantI S_ 8 1#8
  let main_v5 : IVec S72x3x2048x4 8 := broadcastInDim S72x3x2048x4 ![] bcast_S_S72x3x2048x4 main_c_1
  let main_v6 : IVec S72x3x2048x4 1 := cmpi .uge main_arg4 main_v5
  let main_v7 : IVec S72x3x2048x4 1 := andi main_v4 main_v6
  let main_c_2 : IVec S_ 8 := constantI S_ 8 254#8
  let main_v8 : IVec S72x3x2048x4 8 := broadcastInDim S72x3x2048x4 ![] bcast_S_S72x3x2048x4 main_c_2
  let main_v9 : IVec S72x3x2048x4 1 := cmpi .ule main_arg4 main_v8
  let main_v10 : IVec S72x3x2048x4 1 := andi main_v7 main_v9
  let main_c_3 : IVec S_ 1 := constantI S_ 1 1#1
  let main_v11 : IVec S_ 1 := (fun x v => Host.reduce IntOp.andi x v reducesTo_S72x3x2048x4_S_d0_1_2_3 h_S_) main_v10 main_c_3
  main_v11
-- ==== Kernel.lean ====
abbrev S72x1x3072 : Shape := ⟨3, ![72, 1, 3072]⟩
abbrev S72x3x2048x96 : Shape := ⟨4, ![72, 3, 2048, 96]⟩
abbrev S72x3x2048x4 : Shape := ⟨4, ![72, 3, 2048, 4]⟩
abbrev S72 : Shape := ⟨1, ![72]⟩
abbrev S128x128 : Shape := ⟨2, ![128, 128]⟩
abbrev S72x24x128 : Shape := ⟨3, ![72, 24, 128]⟩
abbrev S72x3x96x2048 : Shape := ⟨4, ![72, 3, 96, 2048]⟩
abbrev S72x3x4x2048 : Shape := ⟨4, ![72, 3, 4, 2048]⟩
abbrev S72x24x2048 : Shape := ⟨3, ![72, 24, 2048]⟩
abbrev S1x24x128 : Shape := ⟨3, ![1, 24, 128]⟩
abbrev S1x3x96x2048 : Shape := ⟨4, ![1, 3, 96, 2048]⟩
abbrev S1x3x4x2048 : Shape := ⟨4, ![1, 3, 4, 2048]⟩
abbrev S1x24x2048 : Shape := ⟨3, ![1, 24, 2048]⟩
abbrev S24x128 : Shape := ⟨2, ![24, 128]⟩
abbrev S8x2048 : Shape := ⟨2, ![8, 2048]⟩
abbrev S1 : Shape := ⟨1, ![1]⟩
abbrev S32x128 : Shape := ⟨2, ![32, 128]⟩
abbrev S1x8x128 : Shape := ⟨3, ![1, 8, 128]⟩
abbrev S8x128 : Shape := ⟨2, ![8, 128]⟩
abbrev S8x1 : Shape := ⟨2, ![8, 1]⟩
abbrev S1x1x32x128 : Shape := ⟨4, ![1, 1, 32, 128]⟩
abbrev S128x256 : Shape := ⟨2, ![128, 256]⟩
abbrev S32x256 : Shape := ⟨2, ![32, 256]⟩
abbrev S1x1x4x256 : Shape := ⟨4, ![1, 1, 4, 256]⟩
abbrev S4x256 : Shape := ⟨2, ![4, 256]⟩
abbrev S8x256 : Shape := ⟨2, ![8, 256]⟩
abbrev S1x256 : Shape := ⟨2, ![1, 256]⟩
abbrev S1x8x256 : Shape := ⟨3, ![1, 8, 256]⟩
abbrev S8 : Shape := ⟨1, ![8]⟩

abbrev nBuf : Space → Nat
  | .hbm => 13
  | .vmem => 17
  | .smem => 1
  | _ => 0

abbrev bufTy : (tb : Table) → Fin (tcTables nBuf tb) → BufTy
  | .hbm, ⟨0, _⟩ => ⟨S72x1x3072, .bf16⟩
  | .hbm, ⟨1, _⟩ => ⟨S72x3x2048x96, .i8⟩
  | .hbm, ⟨2, _⟩ => ⟨S72x3x2048x96, .i8⟩
  | .hbm, ⟨3, _⟩ => ⟨S72x3x2048x4, .i8⟩
  | .hbm, ⟨4, _⟩ => ⟨S72x3x2048x4, .i8⟩
  | .hbm, ⟨5, _⟩ => ⟨S128x128, .bf16⟩
  | .hbm, ⟨6, _⟩ => ⟨S72x24x128, .bf16⟩
  | .hbm, ⟨7, _⟩ => ⟨S72x3x96x2048, .i8⟩
  | .hbm, ⟨8, _⟩ => ⟨S72x3x96x2048, .i8⟩
  | .hbm, ⟨9, _⟩ => ⟨S72x3x4x2048, .i8⟩
  | .hbm, ⟨10, _⟩ => ⟨S72x3x4x2048, .i8⟩
  | .hbm, ⟨11, _⟩ => ⟨S72x24x128, .bf16⟩
  | .hbm, ⟨12, _⟩ => ⟨S72x24x2048, .f32⟩
  | .local _ .vmem, ⟨0, _⟩ => ⟨S1x24x128, .bf16⟩
  | .local _ .vmem, ⟨1, _⟩ => ⟨S1x24x128, .bf16⟩
  | .local _ .vmem, ⟨2, _⟩ => ⟨S128x128, .bf16⟩
  | .local _ .vmem, ⟨3, _⟩ => ⟨S1x3x96x2048, .i8⟩
  | .local _ .vmem, ⟨4, _⟩ => ⟨S1x3x96x2048, .i8⟩
  | .local _ .vmem, ⟨5, _⟩ => ⟨S1x3x96x2048, .i8⟩
  | .local _ .vmem, ⟨6, _⟩ => ⟨S1x3x96x2048, .i8⟩
  | .local _ .vmem, ⟨7, _⟩ => ⟨S1x3x4x2048, .i8⟩
  | .local _ .vmem, ⟨8, _⟩ => ⟨S1x3x4x2048, .i8⟩
  | .local _ .vmem, ⟨9, _⟩ => ⟨S1x3x4x2048, .i8⟩
  | .local _ .vmem, ⟨10, _⟩ => ⟨S1x3x4x2048, .i8⟩
  | .local _ .vmem, ⟨11, _⟩ => ⟨S1x24x128, .bf16⟩
  | .local _ .vmem, ⟨12, _⟩ => ⟨S1x24x128, .bf16⟩
  | .local _ .vmem, ⟨13, _⟩ => ⟨S1x24x2048, .f32⟩
  | .local _ .vmem, ⟨14, _⟩ => ⟨S1x24x2048, .f32⟩
  | .local _ .vmem, ⟨15, _⟩ => ⟨S24x128, .i32⟩
  | .local _ .vmem, ⟨16, _⟩ => ⟨S8x2048, .f32⟩
  | .local _ .smem, ⟨0, _⟩ => ⟨S72, .i32⟩
  | _, _ => ⟨S72x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_22 : BitVec 32 := 0#32
  let c8_i32_23 : BitVec 32 := 8#32
  let v78 : BitVec 32 := Scalar.addi c0_i32_22 c8_i32_23
  let c1_i32_24 : BitVec 32 := 1#32
  ⟨c0_i32_22, v78, c1_i32_24⟩
def k0_mult1 (k0_t1 : Fin k0_t1_loop.trips) : BitVec 32 :=
  let c0_i32_22 : BitVec 32 := 0#32
  let c1_i32_24 : BitVec 32 := 1#32
  let arg12 : BitVec 32 := Scf.iv c0_i32_22 c1_i32_24 k0_t1
  let c256_i32 : BitVec 32 := 256#32
  let v187 : BitVec 32 := Scalar.muli arg12 c256_i32
  let c0_i32_89 : BitVec 32 := 0#32
  let v188 : BitVec 32 := Scalar.addi v187 c0_i32_89
  v188
def k0_off2 (k0_t1 : Fin k0_t1_loop.trips) (c0_i32_89 : BitVec 32) : Fin 4 → Nat :=
  let c0_90 : Index := 0#32
  let c0_91 : Index := 0#32
  let c0_92 : Index := 0#32
  let c0_i32_22 : BitVec 32 := 0#32
  let c1_i32_24 : BitVec 32 := 1#32
  let arg12 : BitVec 32 := Scf.iv c0_i32_22 c1_i32_24 k0_t1
  let c256_i32 : BitVec 32 := 256#32
  let v187 : BitVec 32 := Scalar.muli arg12 c256_i32
  let v188 : BitVec 32 := Scalar.addi v187 c0_i32_89
  let v189 : BitVec 32 := v188
  let v190 : Index := Scalar.indexCast v189
  ![0, 0, 0, v190.toNat]
def k0_mult2 (k0_t1 : Fin k0_t1_loop.trips) : BitVec 32 :=
  let c0_i32_22 : BitVec 32 := 0#32
  let c1_i32_24 : BitVec 32 := 1#32
  let arg12 : BitVec 32 := Scf.iv c0_i32_22 c1_i32_24 k0_t1
  let c256_i32_95 : BitVec 32 := 256#32
  let v197 : BitVec 32 := Scalar.muli arg12 c256_i32_95
  let c0_i32_96 : BitVec 32 := 0#32
  let v198 : BitVec 32 := Scalar.addi v197 c0_i32_96
  v198
def k0_off3 (k0_t1 : Fin k0_t1_loop.trips) (c0_i32_96 : BitVec 32) : Fin 4 → Nat :=
  let c0_97 : Index := 0#32
  let c0_98 : Index := 0#32
  let c32 : Index := 32#32
  let c0_i32_22 : BitVec 32 := 0#32
  let c1_i32_24 : BitVec 32 := 1#32
  let arg12 : BitVec 32 := Scf.iv c0_i32_22 c1_i32_24 k0_t1
  let c256_i32_95 : BitVec 32 := 256#32
  let v197 : BitVec 32 := Scalar.muli arg12 c256_i32_95
  let v198 : BitVec 32 := Scalar.addi v197 c0_i32_96
  let v199 : BitVec 32 := v198
  let v200 : Index := Scalar.indexCast v199
  ![0, 0, 32, v200.toNat]
def k0_mult3 (k0_t1 : Fin k0_t1_loop.trips) : BitVec 32 :=
  let c0_i32_22 : BitVec 32 := 0#32
  let c1_i32_24 : BitVec 32 := 1#32
  let arg12 : BitVec 32 := Scf.iv c0_i32_22 c1_i32_24 k0_t1
  let c256_i32_101 : BitVec 32 := 256#32
  let v207 : BitVec 32 := Scalar.muli arg12 c256_i32_101
  let c0_i32_102 : BitVec 32 := 0#32
  let v208 : BitVec 32 := Scalar.addi v207 c0_i32_102
  v208
def k0_off4 (k0_t1 : Fin k0_t1_loop.trips) (c0_i32_102 : BitVec 32) : Fin 4 → Nat :=
  let c0_103 : Index := 0#32
  let c0_104 : Index := 0#32
  let c64 : Index := 64#32
  let c0_i32_22 : BitVec 32 := 0#32
  let c1_i32_24 : BitVec 32 := 1#32
  let arg12 : BitVec 32 := Scf.iv c0_i32_22 c1_i32_24 k0_t1
  let c256_i32_101 : BitVec 32 := 256#32
  let v207 : BitVec 32 := Scalar.muli arg12 c256_i32_101
  let v208 : BitVec 32 := Scalar.addi v207 c0_i32_102
  let v209 : BitVec 32 := v208
  let v210 : Index := Scalar.indexCast v209
  ![0, 0, 64, v210.toNat]
def k0_mult4 (k0_t1 : Fin k0_t1_loop.trips) : BitVec 32 :=
  let c0_i32_22 : BitVec 32 := 0#32
  let c1_i32_24 : BitVec 32 := 1#32
  let arg12 : BitVec 32 := Scf.iv c0_i32_22 c1_i32_24 k0_t1
  let c256_i32_160 : BitVec 32 := 256#32
  let v413 : BitVec 32 := Scalar.muli arg12 c256_i32_160
  let c128_i32 : BitVec 32 := 128#32
  let v414 : BitVec 32 := Scalar.addi v413 c128_i32
  v414
def k0_mult5 (k0_t1 : Fin k0_t1_loop.trips) : BitVec 32 :=
  let c0_i32_22 : BitVec 32 := 0#32
  let c1_i32_24 : BitVec 32 := 1#32
  let arg12 : BitVec 32 := Scf.iv c0_i32_22 c1_i32_24 k0_t1
  let c256_i32_166 : BitVec 32 := 256#32
  let v423 : BitVec 32 := Scalar.muli arg12 c256_i32_166
  let c128_i32_167 : BitVec 32 := 128#32
  let v424 : BitVec 32 := Scalar.addi v423 c128_i32_167
  v424
def k0_mult6 (k0_t1 : Fin k0_t1_loop.trips) : BitVec 32 :=
  let c0_i32_22 : BitVec 32 := 0#32
  let c1_i32_24 : BitVec 32 := 1#32
  let arg12 : BitVec 32 := Scf.iv c0_i32_22 c1_i32_24 k0_t1
  let c256_i32_173 : BitVec 32 := 256#32
  let v433 : BitVec 32 := Scalar.muli arg12 c256_i32_173
  let c128_i32_174 : BitVec 32 := 128#32
  let v434 : BitVec 32 := Scalar.addi v433 c128_i32_174
  v434
def k0_mult7 (k0_t1 : Fin k0_t1_loop.trips) : BitVec 32 :=
  let c0_i32_22 : BitVec 32 := 0#32
  let c1_i32_24 : BitVec 32 := 1#32
  let arg12 : BitVec 32 := Scf.iv c0_i32_22 c1_i32_24 k0_t1
  let c256_i32_248 : BitVec 32 := 256#32
  let v641 : BitVec 32 := Scalar.muli arg12 c256_i32_248
  v641
def k0_off5 (k0_t1 : Fin k0_t1_loop.trips) : Fin 4 → Nat :=
  let c0_249 : Index := 0#32
  let c0_250 : Index := 0#32
  let c0_251 : Index := 0#32
  let c0_i32_22 : BitVec 32 := 0#32
  let c1_i32_24 : BitVec 32 := 1#32
  let arg12 : BitVec 32 := Scf.iv c0_i32_22 c1_i32_24 k0_t1
  let c256_i32_248 : BitVec 32 := 256#32
  let v641 : BitVec 32 := Scalar.muli arg12 c256_i32_248
  let v642 : BitVec 32 := v641
  let v643 : Index := Scalar.indexCast v642
  ![0, 0, 0, v643.toNat]
def k0_mult8 (k0_t1 : Fin k0_t1_loop.trips) : BitVec 32 :=
  let c0_i32_22 : BitVec 32 := 0#32
  let c1_i32_24 : BitVec 32 := 1#32
  let arg12 : BitVec 32 := Scf.iv c0_i32_22 c1_i32_24 k0_t1
  let c256_i32_255 : BitVec 32 := 256#32
  let v679 : BitVec 32 := Scalar.muli arg12 c256_i32_255
  v679
def k0_off6 (k0_t1 : Fin k0_t1_loop.trips) : Fin 3 → Nat :=
  let c0_257 : Index := 0#32
  let c0_258 : Index := 0#32
  let c0_i32_22 : BitVec 32 := 0#32
  let c1_i32_24 : BitVec 32 := 1#32
  let arg12 : BitVec 32 := Scf.iv c0_i32_22 c1_i32_24 k0_t1
  let c256_i32_255 : BitVec 32 := 256#32
  let v679 : BitVec 32 := Scalar.muli arg12 c256_i32_255
  let v680 : BitVec 32 := v679
  let v683 : Index := Scalar.indexCast v680
  ![0, 0, v683.toNat]
def k0_off7 (k0_t1 : Fin k0_t1_loop.trips) : Fin 2 → Nat :=
  let c0_260 : Index := 0#32
  let c0_i32_22 : BitVec 32 := 0#32
  let c1_i32_24 : BitVec 32 := 1#32
  let arg12 : BitVec 32 := Scf.iv c0_i32_22 c1_i32_24 k0_t1
  let c256_i32_255 : BitVec 32 := 256#32
  let v679 : BitVec 32 := Scalar.muli arg12 c256_i32_255
  let v680 : BitVec 32 := v679
  let v689 : Index := Scalar.indexCast v680
  ![0, v689.toNat]
@[reducible] def k0_t2_loop : Scf.Loop 32 :=
  let c0_i32_32 : BitVec 32 := 0#32
  let c8_i32_33 : BitVec 32 := 8#32
  let v92 : BitVec 32 := Scalar.addi c0_i32_32 c8_i32_33
  let c1_i32_34 : BitVec 32 := 1#32
  ⟨c0_i32_32, v92, c1_i32_34⟩
def k0_mult9 (k0_t2 : Fin k0_t2_loop.trips) : BitVec 32 :=
  let c0_i32_32 : BitVec 32 := 0#32
  let c1_i32_34 : BitVec 32 := 1#32
  let arg12 : BitVec 32 := Scf.iv c0_i32_32 c1_i32_34 k0_t2
  let c256_i32 : BitVec 32 := 256#32
  let v187 : BitVec 32 := Scalar.muli arg12 c256_i32
  let c0_i32_89 : BitVec 32 := 0#32
  let v188 : BitVec 32 := Scalar.addi v187 c0_i32_89
  v188
def k0_off8 (k0_t2 : Fin k0_t2_loop.trips) (c0_i32_89 : BitVec 32) : Fin 4 → Nat :=
  let c0_90 : Index := 0#32
  let c0_91 : Index := 0#32
  let c0_92 : Index := 0#32
  let c0_i32_32 : BitVec 32 := 0#32
  let c1_i32_34 : BitVec 32 := 1#32
  let arg12 : BitVec 32 := Scf.iv c0_i32_32 c1_i32_34 k0_t2
  let c256_i32 : BitVec 32 := 256#32
  let v187 : BitVec 32 := Scalar.muli arg12 c256_i32
  let v188 : BitVec 32 := Scalar.addi v187 c0_i32_89
  let v189 : BitVec 32 := v188
  let v190 : Index := Scalar.indexCast v189
  ![0, 0, 0, v190.toNat]
def k0_mult10 (k0_t2 : Fin k0_t2_loop.trips) : BitVec 32 :=
  let c0_i32_32 : BitVec 32 := 0#32
  let c1_i32_34 : BitVec 32 := 1#32
  let arg12 : BitVec 32 := Scf.iv c0_i32_32 c1_i32_34 k0_t2
  let c256_i32_95 : BitVec 32 := 256#32
  let v197 : BitVec 32 := Scalar.muli arg12 c256_i32_95
  let c0_i32_96 : BitVec 32 := 0#32
  let v198 : BitVec 32 := Scalar.addi v197 c0_i32_96
  v198
def k0_off9 (k0_t2 : Fin k0_t2_loop.trips) (c0_i32_96 : BitVec 32) : Fin 4 → Nat :=
  let c0_97 : Index := 0#32
  let c0_98 : Index := 0#32
  let c32 : Index := 32#32
  let c0_i32_32 : BitVec 32 := 0#32
  let c1_i32_34 : BitVec 32 := 1#32
  let arg12 : BitVec 32 := Scf.iv c0_i32_32 c1_i32_34 k0_t2
  let c256_i32_95 : BitVec 32 := 256#32
  let v197 : BitVec 32 := Scalar.muli arg12 c256_i32_95
  let v198 : BitVec 32 := Scalar.addi v197 c0_i32_96
  let v199 : BitVec 32 := v198
  let v200 : Index := Scalar.indexCast v199
  ![0, 0, 32, v200.toNat]
def k0_mult11 (k0_t2 : Fin k0_t2_loop.trips) : BitVec 32 :=
  let c0_i32_32 : BitVec 32 := 0#32
  let c1_i32_34 : BitVec 32 := 1#32
  let arg12 : BitVec 32 := Scf.iv c0_i32_32 c1_i32_34 k0_t2
  let c256_i32_101 : BitVec 32 := 256#32
  let v207 : BitVec 32 := Scalar.muli arg12 c256_i32_101
  let c0_i32_102 : BitVec 32 := 0#32
  let v208 : BitVec 32 := Scalar.addi v207 c0_i32_102
  v208
def k0_off10 (k0_t2 : Fin k0_t2_loop.trips) (c0_i32_102 : BitVec 32) : Fin 4 → Nat :=
  let c0_103 : Index := 0#32
  let c0_104 : Index := 0#32
  let c64 : Index := 64#32
  let c0_i32_32 : BitVec 32 := 0#32
  let c1_i32_34 : BitVec 32 := 1#32
  let arg12 : BitVec 32 := Scf.iv c0_i32_32 c1_i32_34 k0_t2
  let c256_i32_101 : BitVec 32 := 256#32
  let v207 : BitVec 32 := Scalar.muli arg12 c256_i32_101
  let v208 : BitVec 32 := Scalar.addi v207 c0_i32_102
  let v209 : BitVec 32 := v208
  let v210 : Index := Scalar.indexCast v209
  ![0, 0, 64, v210.toNat]
def k0_mult12 (k0_t2 : Fin k0_t2_loop.trips) : BitVec 32 :=
  let c0_i32_32 : BitVec 32 := 0#32
  let c1_i32_34 : BitVec 32 := 1#32
  let arg12 : BitVec 32 := Scf.iv c0_i32_32 c1_i32_34 k0_t2
  let c256_i32_160 : BitVec 32 := 256#32
  let v413 : BitVec 32 := Scalar.muli arg12 c256_i32_160
  let c128_i32 : BitVec 32 := 128#32
  let v414 : BitVec 32 := Scalar.addi v413 c128_i32
  v414
def k0_mult13 (k0_t2 : Fin k0_t2_loop.trips) : BitVec 32 :=
  let c0_i32_32 : BitVec 32 := 0#32
  let c1_i32_34 : BitVec 32 := 1#32
  let arg12 : BitVec 32 := Scf.iv c0_i32_32 c1_i32_34 k0_t2
  let c256_i32_166 : BitVec 32 := 256#32
  let v423 : BitVec 32 := Scalar.muli arg12 c256_i32_166
  let c128_i32_167 : BitVec 32 := 128#32
  let v424 : BitVec 32 := Scalar.addi v423 c128_i32_167
  v424
def k0_mult14 (k0_t2 : Fin k0_t2_loop.trips) : BitVec 32 :=
  let c0_i32_32 : BitVec 32 := 0#32
  let c1_i32_34 : BitVec 32 := 1#32
  let arg12 : BitVec 32 := Scf.iv c0_i32_32 c1_i32_34 k0_t2
  let c256_i32_173 : BitVec 32 := 256#32
  let v433 : BitVec 32 := Scalar.muli arg12 c256_i32_173
  let c128_i32_174 : BitVec 32 := 128#32
  let v434 : BitVec 32 := Scalar.addi v433 c128_i32_174
  v434
def k0_mult15 (k0_t2 : Fin k0_t2_loop.trips) : BitVec 32 :=
  let c0_i32_32 : BitVec 32 := 0#32
  let c1_i32_34 : BitVec 32 := 1#32
  let arg12 : BitVec 32 := Scf.iv c0_i32_32 c1_i32_34 k0_t2
  let c256_i32_247 : BitVec 32 := 256#32
  let v640 : BitVec 32 := Scalar.muli arg12 c256_i32_247
  v640
def k0_off11 (k0_t2 : Fin k0_t2_loop.trips) : Fin 2 → Nat :=
  let c0_248 : Index := 0#32
  let c0_i32_32 : BitVec 32 := 0#32
  let c1_i32_34 : BitVec 32 := 1#32
  let arg12 : BitVec 32 := Scf.iv c0_i32_32 c1_i32_34 k0_t2
  let c256_i32_247 : BitVec 32 := 256#32
  let v640 : BitVec 32 := Scalar.muli arg12 c256_i32_247
  let v641 : BitVec 32 := v640
  let v642 : Index := Scalar.indexCast v641
  ![0, v642.toNat]
def k0_mult16 (k0_t2 : Fin k0_t2_loop.trips) : BitVec 32 :=
  let c0_i32_32 : BitVec 32 := 0#32
  let c1_i32_34 : BitVec 32 := 1#32
  let arg12 : BitVec 32 := Scf.iv c0_i32_32 c1_i32_34 k0_t2
  let c256_i32_249 : BitVec 32 := 256#32
  let v645 : BitVec 32 := Scalar.muli arg12 c256_i32_249
  v645
def k0_off12 (k0_t2 : Fin k0_t2_loop.trips) : Fin 4 → Nat :=
  let c0_250 : Index := 0#32
  let c0_251 : Index := 0#32
  let c0_252 : Index := 0#32
  let c0_i32_32 : BitVec 32 := 0#32
  let c1_i32_34 : BitVec 32 := 1#32
  let arg12 : BitVec 32 := Scf.iv c0_i32_32 c1_i32_34 k0_t2
  let c256_i32_249 : BitVec 32 := 256#32
  let v645 : BitVec 32 := Scalar.muli arg12 c256_i32_249
  let v646 : BitVec 32 := v645
  let v647 : Index := Scalar.indexCast v646
  ![0, 0, 0, v647.toNat]
@[reducible] def k0_t3_loop : Scf.Loop 32 :=
  let c0_i32_46 : BitVec 32 := 0#32
  let c8_i32_47 : BitVec 32 := 8#32
  let v117 : BitVec 32 := Scalar.addi c0_i32_46 c8_i32_47
  let c1_i32_48 : BitVec 32 := 1#32
  ⟨c0_i32_46, v117, c1_i32_48⟩
def k0_mult17 (k0_t3 : Fin k0_t3_loop.trips) : BitVec 32 :=
  let c0_i32_46 : BitVec 32 := 0#32
  let c1_i32_48 : BitVec 32 := 1#32
  let arg12 : BitVec 32 := Scf.iv c0_i32_46 c1_i32_48 k0_t3
  let c256_i32 : BitVec 32 := 256#32
  let v187 : BitVec 32 := Scalar.muli arg12 c256_i32
  let c0_i32_89 : BitVec 32 := 0#32
  let v188 : BitVec 32 := Scalar.addi v187 c0_i32_89
  v188
def k0_off13 (k0_t3 : Fin k0_t3_loop.trips) (c0_i32_89 : BitVec 32) : Fin 4 → Nat :=
  let c0_90 : Index := 0#32
  let c1 : Index := 1#32
  let c0_91 : Index := 0#32
  let c0_i32_46 : BitVec 32 := 0#32
  let c1_i32_48 : BitVec 32 := 1#32
  let arg12 : BitVec 32 := Scf.iv c0_i32_46 c1_i32_48 k0_t3
  let c256_i32 : BitVec 32 := 256#32
  let v187 : BitVec 32 := Scalar.muli arg12 c256_i32
  let v188 : BitVec 32 := Scalar.addi v187 c0_i32_89
  let v189 : BitVec 32 := v188
  let v190 : Index := Scalar.indexCast v189
  ![0, 1, 0, v190.toNat]
def k0_mult18 (k0_t3 : Fin k0_t3_loop.trips) : BitVec 32 :=
  let c0_i32_46 : BitVec 32 := 0#32
  let c1_i32_48 : BitVec 32 := 1#32
  let arg12 : BitVec 32 := Scf.iv c0_i32_46 c1_i32_48 k0_t3
  let c256_i32_94 : BitVec 32 := 256#32
  let v197 : BitVec 32 := Scalar.muli arg12 c256_i32_94
  let c0_i32_95 : BitVec 32 := 0#32
  let v198 : BitVec 32 := Scalar.addi v197 c0_i32_95
  v198
def k0_off14 (k0_t3 : Fin k0_t3_loop.trips) (c0_i32_95 : BitVec 32) : Fin 4 → Nat :=
  let c0_96 : Index := 0#32
  let c1_97 : Index := 1#32
  let c32 : Index := 32#32
  let c0_i32_46 : BitVec 32 := 0#32
  let c1_i32_48 : BitVec 32 := 1#32
  let arg12 : BitVec 32 := Scf.iv c0_i32_46 c1_i32_48 k0_t3
  let c256_i32_94 : BitVec 32 := 256#32
  let v197 : BitVec 32 := Scalar.muli arg12 c256_i32_94
  let v198 : BitVec 32 := Scalar.addi v197 c0_i32_95
  let v199 : BitVec 32 := v198
  let v200 : Index := Scalar.indexCast v199
  ![0, 1, 32, v200.toNat]
def k0_mult19 (k0_t3 : Fin k0_t3_loop.trips) : BitVec 32 :=
  let c0_i32_46 : BitVec 32 := 0#32
  let c1_i32_48 : BitVec 32 := 1#32
  let arg12 : BitVec 32 := Scf.iv c0_i32_46 c1_i32_48 k0_t3
  let c256_i32_100 : BitVec 32 := 256#32
  let v207 : BitVec 32 := Scalar.muli arg12 c256_i32_100
  let c0_i32_101 : BitVec 32 := 0#32
  let v208 : BitVec 32 := Scalar.addi v207 c0_i32_101
  v208
def k0_off15 (k0_t3 : Fin k0_t3_loop.trips) (c0_i32_101 : BitVec 32) : Fin 4 → Nat :=
  let c0_102 : Index := 0#32
  let c1_103 : Index := 1#32
  let c64 : Index := 64#32
  let c0_i32_46 : BitVec 32 := 0#32
  let c1_i32_48 : BitVec 32 := 1#32
  let arg12 : BitVec 32 := Scf.iv c0_i32_46 c1_i32_48 k0_t3
  let c256_i32_100 : BitVec 32 := 256#32
  let v207 : BitVec 32 := Scalar.muli arg12 c256_i32_100
  let v208 : BitVec 32 := Scalar.addi v207 c0_i32_101
  let v209 : BitVec 32 := v208
  let v210 : Index := Scalar.indexCast v209
  ![0, 1, 64, v210.toNat]
def k0_mult20 (k0_t3 : Fin k0_t3_loop.trips) : BitVec 32 :=
  let c0_i32_46 : BitVec 32 := 0#32
  let c1_i32_48 : BitVec 32 := 1#32
  let arg12 : BitVec 32 := Scf.iv c0_i32_46 c1_i32_48 k0_t3
  let c256_i32_160 : BitVec 32 := 256#32
  let v413 : BitVec 32 := Scalar.muli arg12 c256_i32_160
  let c128_i32 : BitVec 32 := 128#32
  let v414 : BitVec 32 := Scalar.addi v413 c128_i32
  v414
def k0_mult21 (k0_t3 : Fin k0_t3_loop.trips) : BitVec 32 :=
  let c0_i32_46 : BitVec 32 := 0#32
  let c1_i32_48 : BitVec 32 := 1#32
  let arg12 : BitVec 32 := Scf.iv c0_i32_46 c1_i32_48 k0_t3
  let c256_i32_166 : BitVec 32 := 256#32
  let v423 : BitVec 32 := Scalar.muli arg12 c256_i32_166
  let c128_i32_167 : BitVec 32 := 128#32
  let v424 : BitVec 32 := Scalar.addi v423 c128_i32_167
  v424
def k0_mult22 (k0_t3 : Fin k0_t3_loop.trips) : BitVec 32 :=
  let c0_i32_46 : BitVec 32 := 0#32
  let c1_i32_48 : BitVec 32 := 1#32
  let arg12 : BitVec 32 := Scf.iv c0_i32_46 c1_i32_48 k0_t3
  let c256_i32_173 : BitVec 32 := 256#32
  let v433 : BitVec 32 := Scalar.muli arg12 c256_i32_173
  let c128_i32_174 : BitVec 32 := 128#32
  let v434 : BitVec 32 := Scalar.addi v433 c128_i32_174
  v434
def k0_mult23 (k0_t3 : Fin k0_t3_loop.trips) : BitVec 32 :=
  let c0_i32_46 : BitVec 32 := 0#32
  let c1_i32_48 : BitVec 32 := 1#32
  let arg12 : BitVec 32 := Scf.iv c0_i32_46 c1_i32_48 k0_t3
  let c256_i32_248 : BitVec 32 := 256#32
  let v641 : BitVec 32 := Scalar.muli arg12 c256_i32_248
  v641
def k0_off16 (k0_t3 : Fin k0_t3_loop.trips) : Fin 4 → Nat :=
  let c0_249 : Index := 0#32
  let c1_250 : Index := 1#32
  let c0_251 : Index := 0#32
  let c0_i32_46 : BitVec 32 := 0#32
  let c1_i32_48 : BitVec 32 := 1#32
  let arg12 : BitVec 32 := Scf.iv c0_i32_46 c1_i32_48 k0_t3
  let c256_i32_248 : BitVec 32 := 256#32
  let v641 : BitVec 32 := Scalar.muli arg12 c256_i32_248
  let v642 : BitVec 32 := v641
  let v643 : Index := Scalar.indexCast v642
  ![0, 1, 0, v643.toNat]
def k0_mult24 (k0_t3 : Fin k0_t3_loop.trips) : BitVec 32 :=
  let c0_i32_46 : BitVec 32 := 0#32
  let c1_i32_48 : BitVec 32 := 1#32
  let arg12 : BitVec 32 := Scf.iv c0_i32_46 c1_i32_48 k0_t3
  let c256_i32_255 : BitVec 32 := 256#32
  let v679 : BitVec 32 := Scalar.muli arg12 c256_i32_255
  v679
def k0_off17 (k0_t3 : Fin k0_t3_loop.trips) : Fin 3 → Nat :=
  let c0_257 : Index := 0#32
  let c8_258 : Index := 8#32
  let c0_i32_46 : BitVec 32 := 0#32
  let c1_i32_48 : BitVec 32 := 1#32
  let arg12 : BitVec 32 := Scf.iv c0_i32_46 c1_i32_48 k0_t3
  let c256_i32_255 : BitVec 32 := 256#32
  let v679 : BitVec 32 := Scalar.muli arg12 c256_i32_255
  let v680 : BitVec 32 := v679
  let v683 : Index := Scalar.indexCast v680
  ![0, 8, v683.toNat]
def k0_off18 (k0_t3 : Fin k0_t3_loop.trips) : Fin 2 → Nat :=
  let c0_260 : Index := 0#32
  let c0_i32_46 : BitVec 32 := 0#32
  let c1_i32_48 : BitVec 32 := 1#32
  let arg12 : BitVec 32 := Scf.iv c0_i32_46 c1_i32_48 k0_t3
  let c256_i32_255 : BitVec 32 := 256#32
  let v679 : BitVec 32 := Scalar.muli arg12 c256_i32_255
  let v680 : BitVec 32 := v679
  let v689 : Index := Scalar.indexCast v680
  ![0, v689.toNat]
@[reducible] def k0_t4_loop : Scf.Loop 32 :=
  let c0_i32_56 : BitVec 32 := 0#32
  let c8_i32_57 : BitVec 32 := 8#32
  let v131 : BitVec 32 := Scalar.addi c0_i32_56 c8_i32_57
  let c1_i32_58 : BitVec 32 := 1#32
  ⟨c0_i32_56, v131, c1_i32_58⟩
def k0_mult25 (k0_t4 : Fin k0_t4_loop.trips) : BitVec 32 :=
  let c0_i32_56 : BitVec 32 := 0#32
  let c1_i32_58 : BitVec 32 := 1#32
  let arg12 : BitVec 32 := Scf.iv c0_i32_56 c1_i32_58 k0_t4
  let c256_i32 : BitVec 32 := 256#32
  let v187 : BitVec 32 := Scalar.muli arg12 c256_i32
  let c0_i32_89 : BitVec 32 := 0#32
  let v188 : BitVec 32 := Scalar.addi v187 c0_i32_89
  v188
def k0_off19 (k0_t4 : Fin k0_t4_loop.trips) (c0_i32_89 : BitVec 32) : Fin 4 → Nat :=
  let c0_90 : Index := 0#32
  let c1 : Index := 1#32
  let c0_91 : Index := 0#32
  let c0_i32_56 : BitVec 32 := 0#32
  let c1_i32_58 : BitVec 32 := 1#32
  let arg12 : BitVec 32 := Scf.iv c0_i32_56 c1_i32_58 k0_t4
  let c256_i32 : BitVec 32 := 256#32
  let v187 : BitVec 32 := Scalar.muli arg12 c256_i32
  let v188 : BitVec 32 := Scalar.addi v187 c0_i32_89
  let v189 : BitVec 32 := v188
  let v190 : Index := Scalar.indexCast v189
  ![0, 1, 0, v190.toNat]
def k0_mult26 (k0_t4 : Fin k0_t4_loop.trips) : BitVec 32 :=
  let c0_i32_56 : BitVec 32 := 0#32
  let c1_i32_58 : BitVec 32 := 1#32
  let arg12 : BitVec 32 := Scf.iv c0_i32_56 c1_i32_58 k0_t4
  let c256_i32_94 : BitVec 32 := 256#32
  let v197 : BitVec 32 := Scalar.muli arg12 c256_i32_94
  let c0_i32_95 : BitVec 32 := 0#32
  let v198 : BitVec 32 := Scalar.addi v197 c0_i32_95
  v198
def k0_off20 (k0_t4 : Fin k0_t4_loop.trips) (c0_i32_95 : BitVec 32) : Fin 4 → Nat :=
  let c0_96 : Index := 0#32
  let c1_97 : Index := 1#32
  let c32 : Index := 32#32
  let c0_i32_56 : BitVec 32 := 0#32
  let c1_i32_58 : BitVec 32 := 1#32
  let arg12 : BitVec 32 := Scf.iv c0_i32_56 c1_i32_58 k0_t4
  let c256_i32_94 : BitVec 32 := 256#32
  let v197 : BitVec 32 := Scalar.muli arg12 c256_i32_94
  let v198 : BitVec 32 := Scalar.addi v197 c0_i32_95
  let v199 : BitVec 32 := v198
  let v200 : Index := Scalar.indexCast v199
  ![0, 1, 32, v200.toNat]
def k0_mult27 (k0_t4 : Fin k0_t4_loop.trips) : BitVec 32 :=
  let c0_i32_56 : BitVec 32 := 0#32
  let c1_i32_58 : BitVec 32 := 1#32
  let arg12 : BitVec 32 := Scf.iv c0_i32_56 c1_i32_58 k0_t4
  let c256_i32_100 : BitVec 32 := 256#32
  let v207 : BitVec 32 := Scalar.muli arg12 c256_i32_100
  let c0_i32_101 : BitVec 32 := 0#32
  let v208 : BitVec 32 := Scalar.addi v207 c0_i32_101
  v208
def k0_off21 (k0_t4 : Fin k0_t4_loop.trips) (c0_i32_101 : BitVec 32) : Fin 4 → Nat :=
  let c0_102 : Index := 0#32
  let c1_103 : Index := 1#32
  let c64 : Index := 64#32
  let c0_i32_56 : BitVec 32 := 0#32
  let c1_i32_58 : BitVec 32 := 1#32
  let arg12 : BitVec 32 := Scf.iv c0_i32_56 c1_i32_58 k0_t4
  let c256_i32_100 : BitVec 32 := 256#32
  let v207 : BitVec 32 := Scalar.muli arg12 c256_i32_100
  let v208 : BitVec 32 := Scalar.addi v207 c0_i32_101
  let v209 : BitVec 32 := v208
  let v210 : Index := Scalar.indexCast v209
  ![0, 1, 64, v210.toNat]
def k0_mult28 (k0_t4 : Fin k0_t4_loop.trips) : BitVec 32 :=
  let c0_i32_56 : BitVec 32 := 0#32
  let c1_i32_58 : BitVec 32 := 1#32
  let arg12 : BitVec 32 := Scf.iv c0_i32_56 c1_i32_58 k0_t4
  let c256_i32_160 : BitVec 32 := 256#32
  let v413 : BitVec 32 := Scalar.muli arg12 c256_i32_160
  let c128_i32 : BitVec 32 := 128#32
  let v414 : BitVec 32 := Scalar.addi v413 c128_i32
  v414
def k0_mult29 (k0_t4 : Fin k0_t4_loop.trips) : BitVec 32 :=
  let c0_i32_56 : BitVec 32 := 0#32
  let c1_i32_58 : BitVec 32 := 1#32
  let arg12 : BitVec 32 := Scf.iv c0_i32_56 c1_i32_58 k0_t4
  let c256_i32_166 : BitVec 32 := 256#32
  let v423 : BitVec 32 := Scalar.muli arg12 c256_i32_166
  let c128_i32_167 : BitVec 32 := 128#32
  let v424 : BitVec 32 := Scalar.addi v423 c128_i32_167
  v424
def k0_mult30 (k0_t4 : Fin k0_t4_loop.trips) : BitVec 32 :=
  let c0_i32_56 : BitVec 32 := 0#32
  let c1_i32_58 : BitVec 32 := 1#32
  let arg12 : BitVec 32 := Scf.iv c0_i32_56 c1_i32_58 k0_t4
  let c256_i32_173 : BitVec 32 := 256#32
  let v433 : BitVec 32 := Scalar.muli arg12 c256_i32_173
  let c128_i32_174 : BitVec 32 := 128#32
  let v434 : BitVec 32 := Scalar.addi v433 c128_i32_174
  v434
def k0_mult31 (k0_t4 : Fin k0_t4_loop.trips) : BitVec 32 :=
  let c0_i32_56 : BitVec 32 := 0#32
  let c1_i32_58 : BitVec 32 := 1#32
  let arg12 : BitVec 32 := Scf.iv c0_i32_56 c1_i32_58 k0_t4
  let c256_i32_247 : BitVec 32 := 256#32
  let v640 : BitVec 32 := Scalar.muli arg12 c256_i32_247
  v640
def k0_off22 (k0_t4 : Fin k0_t4_loop.trips) : Fin 2 → Nat :=
  let c0_248 : Index := 0#32
  let c0_i32_56 : BitVec 32 := 0#32
  let c1_i32_58 : BitVec 32 := 1#32
  let arg12 : BitVec 32 := Scf.iv c0_i32_56 c1_i32_58 k0_t4
  let c256_i32_247 : BitVec 32 := 256#32
  let v640 : BitVec 32 := Scalar.muli arg12 c256_i32_247
  let v641 : BitVec 32 := v640
  let v642 : Index := Scalar.indexCast v641
  ![0, v642.toNat]
def k0_mult32 (k0_t4 : Fin k0_t4_loop.trips) : BitVec 32 :=
  let c0_i32_56 : BitVec 32 := 0#32
  let c1_i32_58 : BitVec 32 := 1#32
  let arg12 : BitVec 32 := Scf.iv c0_i32_56 c1_i32_58 k0_t4
  let c256_i32_249 : BitVec 32 := 256#32
  let v645 : BitVec 32 := Scalar.muli arg12 c256_i32_249
  v645
def k0_off23 (k0_t4 : Fin k0_t4_loop.trips) : Fin 4 → Nat :=
  let c0_250 : Index := 0#32
  let c1_251 : Index := 1#32
  let c0_252 : Index := 0#32
  let c0_i32_56 : BitVec 32 := 0#32
  let c1_i32_58 : BitVec 32 := 1#32
  let arg12 : BitVec 32 := Scf.iv c0_i32_56 c1_i32_58 k0_t4
  let c256_i32_249 : BitVec 32 := 256#32
  let v645 : BitVec 32 := Scalar.muli arg12 c256_i32_249
  let v646 : BitVec 32 := v645
  let v647 : Index := Scalar.indexCast v646
  ![0, 1, 0, v647.toNat]
@[reducible] def k0_t5_loop : Scf.Loop 32 :=
  let c0_i32_70 : BitVec 32 := 0#32
  let c8_i32_71 : BitVec 32 := 8#32
  let v156 : BitVec 32 := Scalar.addi c0_i32_70 c8_i32_71
  let c1_i32_72 : BitVec 32 := 1#32
  ⟨c0_i32_70, v156, c1_i32_72⟩
def k0_mult33 (k0_t5 : Fin k0_t5_loop.trips) : BitVec 32 :=
  let c0_i32_70 : BitVec 32 := 0#32
  let c1_i32_72 : BitVec 32 := 1#32
  let arg12 : BitVec 32 := Scf.iv c0_i32_70 c1_i32_72 k0_t5
  let c256_i32 : BitVec 32 := 256#32
  let v187 : BitVec 32 := Scalar.muli arg12 c256_i32
  let c0_i32_89 : BitVec 32 := 0#32
  let v188 : BitVec 32 := Scalar.addi v187 c0_i32_89
  v188
def k0_off24 (k0_t5 : Fin k0_t5_loop.trips) (c0_i32_89 : BitVec 32) : Fin 4 → Nat :=
  let c0_90 : Index := 0#32
  let c2 : Index := 2#32
  let c0_91 : Index := 0#32
  let c0_i32_70 : BitVec 32 := 0#32
  let c1_i32_72 : BitVec 32 := 1#32
  let arg12 : BitVec 32 := Scf.iv c0_i32_70 c1_i32_72 k0_t5
  let c256_i32 : BitVec 32 := 256#32
  let v187 : BitVec 32 := Scalar.muli arg12 c256_i32
  let v188 : BitVec 32 := Scalar.addi v187 c0_i32_89
  let v189 : BitVec 32 := v188
  let v190 : Index := Scalar.indexCast v189
  ![0, 2, 0, v190.toNat]
def k0_mult34 (k0_t5 : Fin k0_t5_loop.trips) : BitVec 32 :=
  let c0_i32_70 : BitVec 32 := 0#32
  let c1_i32_72 : BitVec 32 := 1#32
  let arg12 : BitVec 32 := Scf.iv c0_i32_70 c1_i32_72 k0_t5
  let c256_i32_94 : BitVec 32 := 256#32
  let v197 : BitVec 32 := Scalar.muli arg12 c256_i32_94
  let c0_i32_95 : BitVec 32 := 0#32
  let v198 : BitVec 32 := Scalar.addi v197 c0_i32_95
  v198
def k0_off25 (k0_t5 : Fin k0_t5_loop.trips) (c0_i32_95 : BitVec 32) : Fin 4 → Nat :=
  let c0_96 : Index := 0#32
  let c2_97 : Index := 2#32
  let c32 : Index := 32#32
  let c0_i32_70 : BitVec 32 := 0#32
  let c1_i32_72 : BitVec 32 := 1#32
  let arg12 : BitVec 32 := Scf.iv c0_i32_70 c1_i32_72 k0_t5
  let c256_i32_94 : BitVec 32 := 256#32
  let v197 : BitVec 32 := Scalar.muli arg12 c256_i32_94
  let v198 : BitVec 32 := Scalar.addi v197 c0_i32_95
  let v199 : BitVec 32 := v198
  let v200 : Index := Scalar.indexCast v199
  ![0, 2, 32, v200.toNat]
def k0_mult35 (k0_t5 : Fin k0_t5_loop.trips) : BitVec 32 :=
  let c0_i32_70 : BitVec 32 := 0#32
  let c1_i32_72 : BitVec 32 := 1#32
  let arg12 : BitVec 32 := Scf.iv c0_i32_70 c1_i32_72 k0_t5
  let c256_i32_100 : BitVec 32 := 256#32
  let v207 : BitVec 32 := Scalar.muli arg12 c256_i32_100
  let c0_i32_101 : BitVec 32 := 0#32
  let v208 : BitVec 32 := Scalar.addi v207 c0_i32_101
  v208
def k0_off26 (k0_t5 : Fin k0_t5_loop.trips) (c0_i32_101 : BitVec 32) : Fin 4 → Nat :=
  let c0_102 : Index := 0#32
  let c2_103 : Index := 2#32
  let c64 : Index := 64#32
  let c0_i32_70 : BitVec 32 := 0#32
  let c1_i32_72 : BitVec 32 := 1#32
  let arg12 : BitVec 32 := Scf.iv c0_i32_70 c1_i32_72 k0_t5
  let c256_i32_100 : BitVec 32 := 256#32
  let v207 : BitVec 32 := Scalar.muli arg12 c256_i32_100
  let v208 : BitVec 32 := Scalar.addi v207 c0_i32_101
  let v209 : BitVec 32 := v208
  let v210 : Index := Scalar.indexCast v209
  ![0, 2, 64, v210.toNat]
def k0_mult36 (k0_t5 : Fin k0_t5_loop.trips) : BitVec 32 :=
  let c0_i32_70 : BitVec 32 := 0#32
  let c1_i32_72 : BitVec 32 := 1#32
  let arg12 : BitVec 32 := Scf.iv c0_i32_70 c1_i32_72 k0_t5
  let c256_i32_160 : BitVec 32 := 256#32
  let v413 : BitVec 32 := Scalar.muli arg12 c256_i32_160
  let c128_i32 : BitVec 32 := 128#32
  let v414 : BitVec 32 := Scalar.addi v413 c128_i32
  v414
def k0_mult37 (k0_t5 : Fin k0_t5_loop.trips) : BitVec 32 :=
  let c0_i32_70 : BitVec 32 := 0#32
  let c1_i32_72 : BitVec 32 := 1#32
  let arg12 : BitVec 32 := Scf.iv c0_i32_70 c1_i32_72 k0_t5
  let c256_i32_166 : BitVec 32 := 256#32
  let v423 : BitVec 32 := Scalar.muli arg12 c256_i32_166
  let c128_i32_167 : BitVec 32 := 128#32
  let v424 : BitVec 32 := Scalar.addi v423 c128_i32_167
  v424
def k0_mult38 (k0_t5 : Fin k0_t5_loop.trips) : BitVec 32 :=
  let c0_i32_70 : BitVec 32 := 0#32
  let c1_i32_72 : BitVec 32 := 1#32
  let arg12 : BitVec 32 := Scf.iv c0_i32_70 c1_i32_72 k0_t5
  let c256_i32_173 : BitVec 32 := 256#32
  let v433 : BitVec 32 := Scalar.muli arg12 c256_i32_173
  let c128_i32_174 : BitVec 32 := 128#32
  let v434 : BitVec 32 := Scalar.addi v433 c128_i32_174
  v434
def k0_mult39 (k0_t5 : Fin k0_t5_loop.trips) : BitVec 32 :=
  let c0_i32_70 : BitVec 32 := 0#32
  let c1_i32_72 : BitVec 32 := 1#32
  let arg12 : BitVec 32 := Scf.iv c0_i32_70 c1_i32_72 k0_t5
  let c256_i32_248 : BitVec 32 := 256#32
  let v641 : BitVec 32 := Scalar.muli arg12 c256_i32_248
  v641
def k0_off27 (k0_t5 : Fin k0_t5_loop.trips) : Fin 4 → Nat :=
  let c0_249 : Index := 0#32
  let c2_250 : Index := 2#32
  let c0_251 : Index := 0#32
  let c0_i32_70 : BitVec 32 := 0#32
  let c1_i32_72 : BitVec 32 := 1#32
  let arg12 : BitVec 32 := Scf.iv c0_i32_70 c1_i32_72 k0_t5
  let c256_i32_248 : BitVec 32 := 256#32
  let v641 : BitVec 32 := Scalar.muli arg12 c256_i32_248
  let v642 : BitVec 32 := v641
  let v643 : Index := Scalar.indexCast v642
  ![0, 2, 0, v643.toNat]
def k0_mult40 (k0_t5 : Fin k0_t5_loop.trips) : BitVec 32 :=
  let c0_i32_70 : BitVec 32 := 0#32
  let c1_i32_72 : BitVec 32 := 1#32
  let arg12 : BitVec 32 := Scf.iv c0_i32_70 c1_i32_72 k0_t5
  let c256_i32_255 : BitVec 32 := 256#32
  let v679 : BitVec 32 := Scalar.muli arg12 c256_i32_255
  v679
def k0_off28 (k0_t5 : Fin k0_t5_loop.trips) : Fin 3 → Nat :=
  let c0_257 : Index := 0#32
  let c16_258 : Index := 16#32
  let c0_i32_70 : BitVec 32 := 0#32
  let c1_i32_72 : BitVec 32 := 1#32
  let arg12 : BitVec 32 := Scf.iv c0_i32_70 c1_i32_72 k0_t5
  let c256_i32_255 : BitVec 32 := 256#32
  let v679 : BitVec 32 := Scalar.muli arg12 c256_i32_255
  let v680 : BitVec 32 := v679
  let v683 : Index := Scalar.indexCast v680
  ![0, 16, v683.toNat]
def k0_off29 (k0_t5 : Fin k0_t5_loop.trips) : Fin 2 → Nat :=
  let c0_260 : Index := 0#32
  let c0_i32_70 : BitVec 32 := 0#32
  let c1_i32_72 : BitVec 32 := 1#32
  let arg12 : BitVec 32 := Scf.iv c0_i32_70 c1_i32_72 k0_t5
  let c256_i32_255 : BitVec 32 := 256#32
  let v679 : BitVec 32 := Scalar.muli arg12 c256_i32_255
  let v680 : BitVec 32 := v679
  let v689 : Index := Scalar.indexCast v680
  ![0, v689.toNat]
@[reducible] def k0_t6_loop : Scf.Loop 32 :=
  let c0_i32_80 : BitVec 32 := 0#32
  let c8_i32_81 : BitVec 32 := 8#32
  let v170 : BitVec 32 := Scalar.addi c0_i32_80 c8_i32_81
  let c1_i32_82 : BitVec 32 := 1#32
  ⟨c0_i32_80, v170, c1_i32_82⟩
def k0_mult41 (k0_t6 : Fin k0_t6_loop.trips) : BitVec 32 :=
  let c0_i32_80 : BitVec 32 := 0#32
  let c1_i32_82 : BitVec 32 := 1#32
  let arg12 : BitVec 32 := Scf.iv c0_i32_80 c1_i32_82 k0_t6
  let c256_i32 : BitVec 32 := 256#32
  let v187 : BitVec 32 := Scalar.muli arg12 c256_i32
  let c0_i32_89 : BitVec 32 := 0#32
  let v188 : BitVec 32 := Scalar.addi v187 c0_i32_89
  v188
def k0_off30 (k0_t6 : Fin k0_t6_loop.trips) (c0_i32_89 : BitVec 32) : Fin 4 → Nat :=
  let c0_90 : Index := 0#32
  let c2 : Index := 2#32
  let c0_91 : Index := 0#32
  let c0_i32_80 : BitVec 32 := 0#32
  let c1_i32_82 : BitVec 32 := 1#32
  let arg12 : BitVec 32 := Scf.iv c0_i32_80 c1_i32_82 k0_t6
  let c256_i32 : BitVec 32 := 256#32
  let v187 : BitVec 32 := Scalar.muli arg12 c256_i32
  let v188 : BitVec 32 := Scalar.addi v187 c0_i32_89
  let v189 : BitVec 32 := v188
  let v190 : Index := Scalar.indexCast v189
  ![0, 2, 0, v190.toNat]
def k0_mult42 (k0_t6 : Fin k0_t6_loop.trips) : BitVec 32 :=
  let c0_i32_80 : BitVec 32 := 0#32
  let c1_i32_82 : BitVec 32 := 1#32
  let arg12 : BitVec 32 := Scf.iv c0_i32_80 c1_i32_82 k0_t6
  let c256_i32_94 : BitVec 32 := 256#32
  let v197 : BitVec 32 := Scalar.muli arg12 c256_i32_94
  let c0_i32_95 : BitVec 32 := 0#32
  let v198 : BitVec 32 := Scalar.addi v197 c0_i32_95
  v198
def k0_off31 (k0_t6 : Fin k0_t6_loop.trips) (c0_i32_95 : BitVec 32) : Fin 4 → Nat :=
  let c0_96 : Index := 0#32
  let c2_97 : Index := 2#32
  let c32 : Index := 32#32
  let c0_i32_80 : BitVec 32 := 0#32
  let c1_i32_82 : BitVec 32 := 1#32
  let arg12 : BitVec 32 := Scf.iv c0_i32_80 c1_i32_82 k0_t6
  let c256_i32_94 : BitVec 32 := 256#32
  let v197 : BitVec 32 := Scalar.muli arg12 c256_i32_94
  let v198 : BitVec 32 := Scalar.addi v197 c0_i32_95
  let v199 : BitVec 32 := v198
  let v200 : Index := Scalar.indexCast v199
  ![0, 2, 32, v200.toNat]
def k0_mult43 (k0_t6 : Fin k0_t6_loop.trips) : BitVec 32 :=
  let c0_i32_80 : BitVec 32 := 0#32
  let c1_i32_82 : BitVec 32 := 1#32
  let arg12 : BitVec 32 := Scf.iv c0_i32_80 c1_i32_82 k0_t6
  let c256_i32_100 : BitVec 32 := 256#32
  let v207 : BitVec 32 := Scalar.muli arg12 c256_i32_100
  let c0_i32_101 : BitVec 32 := 0#32
  let v208 : BitVec 32 := Scalar.addi v207 c0_i32_101
  v208
def k0_off32 (k0_t6 : Fin k0_t6_loop.trips) (c0_i32_101 : BitVec 32) : Fin 4 → Nat :=
  let c0_102 : Index := 0#32
  let c2_103 : Index := 2#32
  let c64 : Index := 64#32
  let c0_i32_80 : BitVec 32 := 0#32
  let c1_i32_82 : BitVec 32 := 1#32
  let arg12 : BitVec 32 := Scf.iv c0_i32_80 c1_i32_82 k0_t6
  let c256_i32_100 : BitVec 32 := 256#32
  let v207 : BitVec 32 := Scalar.muli arg12 c256_i32_100
  let v208 : BitVec 32 := Scalar.addi v207 c0_i32_101
  let v209 : BitVec 32 := v208
  let v210 : Index := Scalar.indexCast v209
  ![0, 2, 64, v210.toNat]
def k0_mult44 (k0_t6 : Fin k0_t6_loop.trips) : BitVec 32 :=
  let c0_i32_80 : BitVec 32 := 0#32
  let c1_i32_82 : BitVec 32 := 1#32
  let arg12 : BitVec 32 := Scf.iv c0_i32_80 c1_i32_82 k0_t6
  let c256_i32_160 : BitVec 32 := 256#32
  let v413 : BitVec 32 := Scalar.muli arg12 c256_i32_160
  let c128_i32 : BitVec 32 := 128#32
  let v414 : BitVec 32 := Scalar.addi v413 c128_i32
  v414
def k0_mult45 (k0_t6 : Fin k0_t6_loop.trips) : BitVec 32 :=
  let c0_i32_80 : BitVec 32 := 0#32
  let c1_i32_82 : BitVec 32 := 1#32
  let arg12 : BitVec 32 := Scf.iv c0_i32_80 c1_i32_82 k0_t6
  let c256_i32_166 : BitVec 32 := 256#32
  let v423 : BitVec 32 := Scalar.muli arg12 c256_i32_166
  let c128_i32_167 : BitVec 32 := 128#32
  let v424 : BitVec 32 := Scalar.addi v423 c128_i32_167
  v424
def k0_mult46 (k0_t6 : Fin k0_t6_loop.trips) : BitVec 32 :=
  let c0_i32_80 : BitVec 32 := 0#32
  let c1_i32_82 : BitVec 32 := 1#32
  let arg12 : BitVec 32 := Scf.iv c0_i32_80 c1_i32_82 k0_t6
  let c256_i32_173 : BitVec 32 := 256#32
  let v433 : BitVec 32 := Scalar.muli arg12 c256_i32_173
  let c128_i32_174 : BitVec 32 := 128#32
  let v434 : BitVec 32 := Scalar.addi v433 c128_i32_174
  v434
def k0_mult47 (k0_t6 : Fin k0_t6_loop.trips) : BitVec 32 :=
  let c0_i32_80 : BitVec 32 := 0#32
  let c1_i32_82 : BitVec 32 := 1#32
  let arg12 : BitVec 32 := Scf.iv c0_i32_80 c1_i32_82 k0_t6
  let c256_i32_247 : BitVec 32 := 256#32
  let v640 : BitVec 32 := Scalar.muli arg12 c256_i32_247
  v640
def k0_off33 (k0_t6 : Fin k0_t6_loop.trips) : Fin 2 → Nat :=
  let c0_248 : Index := 0#32
  let c0_i32_80 : BitVec 32 := 0#32
  let c1_i32_82 : BitVec 32 := 1#32
  let arg12 : BitVec 32 := Scf.iv c0_i32_80 c1_i32_82 k0_t6
  let c256_i32_247 : BitVec 32 := 256#32
  let v640 : BitVec 32 := Scalar.muli arg12 c256_i32_247
  let v641 : BitVec 32 := v640
  let v642 : Index := Scalar.indexCast v641
  ![0, v642.toNat]
def k0_mult48 (k0_t6 : Fin k0_t6_loop.trips) : BitVec 32 :=
  let c0_i32_80 : BitVec 32 := 0#32
  let c1_i32_82 : BitVec 32 := 1#32
  let arg12 : BitVec 32 := Scf.iv c0_i32_80 c1_i32_82 k0_t6
  let c256_i32_249 : BitVec 32 := 256#32
  let v645 : BitVec 32 := Scalar.muli arg12 c256_i32_249
  v645
def k0_off34 (k0_t6 : Fin k0_t6_loop.trips) : Fin 4 → Nat :=
  let c0_250 : Index := 0#32
  let c2_251 : Index := 2#32
  let c0_252 : Index := 0#32
  let c0_i32_80 : BitVec 32 := 0#32
  let c1_i32_82 : BitVec 32 := 1#32
  let arg12 : BitVec 32 := Scf.iv c0_i32_80 c1_i32_82 k0_t6
  let c256_i32_249 : BitVec 32 := 256#32
  let v645 : BitVec 32 := Scalar.muli arg12 c256_i32_249
  let v646 : BitVec 32 := v645
  let v647 : Index := Scalar.indexCast v646
  ![0, 2, 0, v647.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3x96x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x96x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x4x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x4x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x24x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x24x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S72x1x3072 : Shape := ⟨3, ![72, 1, 3072]⟩
abbrev S72x3x2048x96 : Shape := ⟨4, ![72, 3, 2048, 96]⟩
abbrev S72x3x2048x4 : Shape := ⟨4, ![72, 3, 2048, 4]⟩
abbrev S72 : Shape := ⟨1, ![72]⟩
abbrev S72x3x2048x32x3 : Shape := ⟨5, ![72, 3, 2048, 32, 3]⟩
abbrev S72x3x2048x32x1 : Shape := ⟨5, ![72, 3, 2048, 32, 1]⟩
abbrev S72x3x2048x32 : Shape := ⟨4, ![72, 3, 2048, 32]⟩
abbrev S_ : Shape := ⟨0, ![]⟩
abbrev S4 : Shape := ⟨1, ![4]⟩
abbrev S1x1x1x1x4 : Shape := ⟨5, ![1, 1, 1, 1, 4]⟩
abbrev S72x3x2048x32x4 : Shape := ⟨5, ![72, 3, 2048, 32, 4]⟩
abbrev S72x3x2048x4x32 : Shape := ⟨5, ![72, 3, 2048, 4, 32]⟩
abbrev S72x3x2048x4x1 : Shape := ⟨5, ![72, 3, 2048, 4, 1]⟩
abbrev S72x3x2048x128 : Shape := ⟨4, ![72, 3, 2048, 128]⟩
abbrev S72x1x3x8x128 : Shape := ⟨5, ![72, 1, 3, 8, 128]⟩
abbrev S72x3x2048x1x8 : Shape := ⟨5, ![72, 3, 2048, 1, 8]⟩
abbrev S72x3x8x1x2048 : Shape := ⟨5, ![72, 3, 8, 1, 2048]⟩
abbrev S2048 : Shape := ⟨1, ![2048]⟩
abbrev S1x2048 : Shape := ⟨2, ![1, 2048]⟩
abbrev S72x1 : Shape := ⟨2, ![72, 1]⟩
abbrev S72x2048 : Shape := ⟨2, ![72, 2048]⟩
abbrev S72x1x1x1x2048 : Shape := ⟨5, ![72, 1, 1, 1, 2048]⟩
abbrev S72x3x8x1 : Shape := ⟨4, ![72, 3, 8, 1]⟩
abbrev S72x3x8x1x1 : Shape := ⟨5, ![72, 3, 8, 1, 1]⟩
abbrev S72x3x128x8x1 : Shape := ⟨5, ![72, 3, 128, 8, 1]⟩
abbrev S72x24x128 : Shape := ⟨3, ![72, 24, 128]⟩
abbrev S72x24x2048 : Shape := ⟨3, ![72, 24, 2048]⟩

abbrev nBuf : Space → Nat
  | .hbm => 219
  | .vmem => 0
  | .smem => 0
  | _ => 0

abbrev hbmTy0_0 (i : Nat) : BufTy := match i % 128 with
  | 0 => ⟨S72x1x3072, .bf16⟩
  | 1 => ⟨S72x3x2048x96, .i8⟩
  | 2 => ⟨S72x3x2048x96, .i8⟩
  | 3 => ⟨S72x3x2048x4, .i8⟩
  | 4 => ⟨S72x3x2048x4, .i8⟩
  | 5 => ⟨S72, .i32⟩
  | 6 => ⟨S72x3x2048x96, .i32⟩
  | 7 => ⟨S72x3x2048x32x3, .i32⟩
  | 8 => ⟨S72x3x2048x32x1, .i32⟩
  | 9 => ⟨S72x3x2048x32, .i32⟩
  | 10 => ⟨S72x3x2048x32x1, .i32⟩
  | 11 => ⟨S72x3x2048x32, .i32⟩
  | 12 => ⟨S_, .i32⟩
  | 13 => ⟨S72x3x2048x32, .i32⟩
  | 14 => ⟨S72x3x2048x32, .i32⟩
  | 15 => ⟨S72x3x2048x32, .i32⟩
  | 16 => ⟨S72x3x2048x32x1, .i32⟩
  | 17 => ⟨S72x3x2048x32, .i32⟩
  | 18 => ⟨S_, .i32⟩
  | 19 => ⟨S72x3x2048x32, .i32⟩
  | 20 => ⟨S72x3x2048x32, .i32⟩
  | 21 => ⟨S72x3x2048x32, .i32⟩
  | 22 => ⟨S72x3x2048x32x1, .i32⟩
  | 23 => ⟨S4, .i32⟩
  | 24 => ⟨S_, .i32⟩
  | 25 => ⟨S4, .i32⟩
  | 26 => ⟨S4, .i32⟩
  | 27 => ⟨S1x1x1x1x4, .i32⟩
  | 28 => ⟨S72x3x2048x32x4, .i32⟩
  | 29 => ⟨S72x3x2048x32x4, .i32⟩
  | 30 => ⟨S72x3x2048x32x4, .i32⟩
  | 31 => ⟨S_, .i32⟩
  | 32 => ⟨S72x3x2048x32x4, .i32⟩
  | 33 => ⟨S72x3x2048x32x4, .i32⟩
  | 34 => ⟨S72x3x2048x4x32, .i32⟩
  | 35 => ⟨S_, .i32⟩
  | 36 => ⟨S72x3x2048x4x32, .i32⟩
  | 37 => ⟨S72x3x2048x4x32, .i32⟩
  | 38 => ⟨S_, .i32⟩
  | 39 => ⟨S72x3x2048x4x32, .i32⟩
  | 40 => ⟨S72x3x2048x4x32, .i32⟩
  | 41 => ⟨S_, .i32⟩
  | 42 => ⟨S72x3x2048x4x32, .i32⟩
  | 43 => ⟨S72x3x2048x4x32, .i32⟩
  | 44 => ⟨S_, .i32⟩
  | 45 => ⟨S72x3x2048x4x32, .i32⟩
  | 46 => ⟨S72x3x2048x4x32, .i32⟩
  | 47 => ⟨S_, .i32⟩
  | 48 => ⟨S72x3x2048x4x32, .i32⟩
  | 49 => ⟨S72x3x2048x4x32, .i32⟩
  | 50 => ⟨S_, .i32⟩
  | 51 => ⟨S72x3x2048x4x32, .i32⟩
  | 52 => ⟨S72x3x2048x4x32, .i1⟩
  | 53 => ⟨S_, .i32⟩
  | 54 => ⟨S_, .i32⟩
  | 55 => ⟨S72x3x2048x4x32, .i32⟩
  | 56 => ⟨S72x3x2048x4x32, .i32⟩
  | 57 => ⟨S72x3x2048x4x32, .i32⟩
  | 58 => ⟨S72x3x2048x4x32, .i32⟩
  | 59 => ⟨S72x3x2048x4x32, .i32⟩
  | 60 => ⟨S72x3x2048x4x32, .f32⟩
  | 61 => ⟨S_, .i32⟩
  | 62 => ⟨S72x3x2048x4x32, .i32⟩
  | 63 => ⟨S72x3x2048x4x32, .i32⟩
  | 64 => ⟨S_, .i32⟩
  | 65 => ⟨S72x3x2048x4x32, .i32⟩
  | 66 => ⟨S72x3x2048x4x32, .i32⟩
  | 67 => ⟨S72x3x2048x4x32, .f32⟩
  | 68 => ⟨S_, .f32⟩
  | 69 => ⟨S72x3x2048x4x32, .f32⟩
  | 70 => ⟨S72x3x2048x4x32, .f32⟩
  | 71 => ⟨S72x3x2048x4x32, .f32⟩
  | 72 => ⟨S_, .i32⟩
  | 73 => ⟨S72x3x2048x4x32, .i32⟩
  | 74 => ⟨S72x3x2048x4x32, .i1⟩
  | 75 => ⟨S72x3x2048x4x32, .f32⟩
  | 76 => ⟨S72x3x2048x4x32, .f32⟩
  | 77 => ⟨S72x3x2048x4x32, .bf16⟩
  | 78 => ⟨S72x3x2048x4, .i32⟩
  | 79 => ⟨S_, .i32⟩
  | 80 => ⟨S72x3x2048x4, .i32⟩
  | 81 => ⟨S72x3x2048x4, .i32⟩
  | 82 => ⟨S72x3x2048x4, .f32⟩
  | 83 => ⟨S_, .f32⟩
  | 84 => ⟨S72x3x2048x4, .f32⟩
  | 85 => ⟨S72x3x2048x4, .f32⟩
  | 86 => ⟨S72x3x2048x4, .bf16⟩
  | 87 => ⟨S72x3x2048x4x1, .bf16⟩
  | 88 => ⟨S72x3x2048x4x32, .bf16⟩
  | 89 => ⟨S72x3x2048x4x32, .bf16⟩
  | 90 => ⟨S72x3x2048x128, .bf16⟩
  | 91 => ⟨S72x3x2048x96, .i32⟩
  | 92 => ⟨S72x3x2048x32x3, .i32⟩
  | 93 => ⟨S72x3x2048x32x1, .i32⟩
  | 94 => ⟨S72x3x2048x32, .i32⟩
  | 95 => ⟨S72x3x2048x32x1, .i32⟩
  | 96 => ⟨S72x3x2048x32, .i32⟩
  | 97 => ⟨S_, .i32⟩
  | 98 => ⟨S72x3x2048x32, .i32⟩
  | 99 => ⟨S72x3x2048x32, .i32⟩
  | 100 => ⟨S72x3x2048x32, .i32⟩
  | 101 => ⟨S72x3x2048x32x1, .i32⟩
  | 102 => ⟨S72x3x2048x32, .i32⟩
  | 103 => ⟨S_, .i32⟩
  | 104 => ⟨S72x3x2048x32, .i32⟩
  | 105 => ⟨S72x3x2048x32, .i32⟩
  | 106 => ⟨S72x3x2048x32, .i32⟩
  | 107 => ⟨S72x3x2048x32x1, .i32⟩
  | 108 => ⟨S4, .i32⟩
  | 109 => ⟨S_, .i32⟩
  | 110 => ⟨S4, .i32⟩
  | 111 => ⟨S4, .i32⟩
  | 112 => ⟨S1x1x1x1x4, .i32⟩
  | 113 => ⟨S72x3x2048x32x4, .i32⟩
  | 114 => ⟨S72x3x2048x32x4, .i32⟩
  | 115 => ⟨S72x3x2048x32x4, .i32⟩
  | 116 => ⟨S_, .i32⟩
  | 117 => ⟨S72x3x2048x32x4, .i32⟩
  | 118 => ⟨S72x3x2048x32x4, .i32⟩
  | 119 => ⟨S72x3x2048x4x32, .i32⟩
  | 120 => ⟨S_, .i32⟩
  | 121 => ⟨S72x3x2048x4x32, .i32⟩
  | 122 => ⟨S72x3x2048x4x32, .i32⟩
  | 123 => ⟨S_, .i32⟩
  | 124 => ⟨S72x3x2048x4x32, .i32⟩
  | 125 => ⟨S72x3x2048x4x32, .i32⟩
  | 126 => ⟨S_, .i32⟩
  | 127 => ⟨S72x3x2048x4x32, .i32⟩
  | _ => ⟨S72x1x3072, .bf16⟩

abbrev hbmTy0_1 (i : Nat) : BufTy := match i % 128 with
  | 0 => ⟨S72x3x2048x4x32, .i32⟩
  | 1 => ⟨S_, .i32⟩
  | 2 => ⟨S72x3x2048x4x32, .i32⟩
  | 3 => ⟨S72x3x2048x4x32, .i32⟩
  | 4 => ⟨S_, .i32⟩
  | 5 => ⟨S72x3x2048x4x32, .i32⟩
  | 6 => ⟨S72x3x2048x4x32, .i32⟩
  | 7 => ⟨S_, .i32⟩
  | 8 => ⟨S72x3x2048x4x32, .i32⟩
  | 9 => ⟨S72x3x2048x4x32, .i1⟩
  | 10 => ⟨S_, .i32⟩
  | 11 => ⟨S_, .i32⟩
  | 12 => ⟨S72x3x2048x4x32, .i32⟩
  | 13 => ⟨S72x3x2048x4x32, .i32⟩
  | 14 => ⟨S72x3x2048x4x32, .i32⟩
  | 15 => ⟨S72x3x2048x4x32, .i32⟩
  | 16 => ⟨S72x3x2048x4x32, .i32⟩
  | 17 => ⟨S72x3x2048x4x32, .f32⟩
  | 18 => ⟨S_, .i32⟩
  | 19 => ⟨S72x3x2048x4x32, .i32⟩
  | 20 => ⟨S72x3x2048x4x32, .i32⟩
  | 21 => ⟨S_, .i32⟩
  | 22 => ⟨S72x3x2048x4x32, .i32⟩
  | 23 => ⟨S72x3x2048x4x32, .i32⟩
  | 24 => ⟨S72x3x2048x4x32, .f32⟩
  | 25 => ⟨S_, .f32⟩
  | 26 => ⟨S72x3x2048x4x32, .f32⟩
  | 27 => ⟨S72x3x2048x4x32, .f32⟩
  | 28 => ⟨S72x3x2048x4x32, .f32⟩
  | 29 => ⟨S_, .i32⟩
  | 30 => ⟨S72x3x2048x4x32, .i32⟩
  | 31 => ⟨S72x3x2048x4x32, .i1⟩
  | 32 => ⟨S72x3x2048x4x32, .f32⟩
  | 33 => ⟨S72x3x2048x4x32, .f32⟩
  | 34 => ⟨S72x3x2048x4x32, .bf16⟩
  | 35 => ⟨S72x3x2048x4, .i32⟩
  | 36 => ⟨S_, .i32⟩
  | 37 => ⟨S72x3x2048x4, .i32⟩
  | 38 => ⟨S72x3x2048x4, .i32⟩
  | 39 => ⟨S72x3x2048x4, .f32⟩
  | 40 => ⟨S_, .f32⟩
  | 41 => ⟨S72x3x2048x4, .f32⟩
  | 42 => ⟨S72x3x2048x4, .f32⟩
  | 43 => ⟨S72x3x2048x4, .bf16⟩
  | 44 => ⟨S72x3x2048x4x1, .bf16⟩
  | 45 => ⟨S72x3x2048x4x32, .bf16⟩
  | 46 => ⟨S72x3x2048x4x32, .bf16⟩
  | 47 => ⟨S72x3x2048x128, .bf16⟩
  | 48 => ⟨S72x1x3x8x128, .bf16⟩
  | 49 => ⟨S72x3x2048x1x8, .f32⟩
  | 50 => ⟨S72x3x8x1x2048, .f32⟩
  | 51 => ⟨S_, .f32⟩
  | 52 => ⟨S72x3x8x1x2048, .f32⟩
  | 53 => ⟨S72x3x8x1x2048, .f32⟩
  | 54 => ⟨S2048, .i32⟩
  | 55 => ⟨S1x2048, .i32⟩
  | 56 => ⟨S72x1, .i32⟩
  | 57 => ⟨S72x2048, .i32⟩
  | 58 => ⟨S72x2048, .i32⟩
  | 59 => ⟨S72x2048, .i1⟩
  | 60 => ⟨S72x1x1x1x2048, .i1⟩
  | 61 => ⟨S_, .f32⟩
  | 62 => ⟨S_, .f32⟩
  | 63 => ⟨S72x3x8x1x2048, .i1⟩
  | 64 => ⟨S72x3x8x1x2048, .f32⟩
  | 65 => ⟨S72x3x8x1x2048, .f32⟩
  | 66 => ⟨S_, .f32⟩
  | 67 => ⟨S72x3x8x1, .f32⟩
  | 68 => ⟨S_, .f32⟩
  | 69 => ⟨S72x3x8x1, .f32⟩
  | 70 => ⟨S72x3x8x1, .f32⟩
  | 71 => ⟨S72x3x8x1x1, .f32⟩
  | 72 => ⟨S72x3x8x1x2048, .f32⟩
  | 73 => ⟨S72x3x8x1x2048, .f32⟩
  | 74 => ⟨S72x3x8x1x2048, .f32⟩
  | 75 => ⟨S_, .f32⟩
  | 76 => ⟨S72x3x8x1, .f32⟩
  | 77 => ⟨S72x3x8x1x1, .f32⟩
  | 78 => ⟨S72x3x8x1x2048, .f32⟩
  | 79 => ⟨S72x3x8x1x2048, .f32⟩
  | 80 => ⟨S72x3x8x1x2048, .bf16⟩
  | 81 => ⟨S72x3x128x8x1, .f32⟩
  | 82 => ⟨S72x1x3x8x128, .f32⟩
  | 83 => ⟨S72x1x3x8x128, .bf16⟩
  | 84 => ⟨S72x24x128, .bf16⟩
  | 85 => ⟨S_, .f32⟩
  | 86 => ⟨S_, .f32⟩
  | 87 => ⟨S72x3x8x1x2048, .i1⟩
  | 88 => ⟨S72x3x8x1x2048, .f32⟩
  | 89 => ⟨S72x3x8x1x2048, .f32⟩
  | 90 => ⟨S72x24x2048, .f32⟩
  | _ => ⟨S72x1x3072, .bf16⟩

abbrev hbmTy (i : Nat) : BufTy := match i / 128 with
  | 0 => hbmTy0_0 i
  | 1 => hbmTy0_1 i
  | _ => ⟨S72x1x3072, .bf16⟩

abbrev bufTy : (tb : Table) → Fin (tcTables nBuf tb) → BufTy
  | .hbm, ⟨i, _⟩ => hbmTy i
  | _, _ => ⟨S72x1x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_c_10 : Ref sig .tc := ⟨.hbm, 54, rfl⟩
abbrev main_call0_v0 : Ref sig .tc := ⟨.hbm, 55, rfl⟩
abbrev main_call0_v1 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_11 : Ref sig .tc := ⟨.hbm, 61, rfl⟩
abbrev main_v41 : Ref sig .tc := ⟨.hbm, 62, rfl⟩
abbrev main_v42 : Ref sig .tc := ⟨.hbm, 63, rfl⟩
abbrev main_c_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_13 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_14 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_20 : Ref sig .tc := ⟨.hbm, 120, rfl⟩
abbrev main_v90 : Ref sig .tc := ⟨.hbm, 121, rfl⟩
abbrev main_v91 : Ref sig .tc := ⟨.hbm, 122, rfl⟩
abbrev main_c_21 : Ref sig .tc := ⟨.hbm, 123, rfl⟩
abbrev main_v92 : Ref sig .tc := ⟨.hbm, 124, rfl⟩
abbrev main_v93 : Ref sig .tc := ⟨.hbm, 125, rfl⟩
abbrev main_c_22 : Ref sig .tc := ⟨.hbm, 126, rfl⟩
abbrev main_v94 : Ref sig .tc := ⟨.hbm, 127, rfl⟩
abbrev main_v95 : Ref sig .tc := ⟨.hbm, 128, rfl⟩
abbrev main_c_23 : Ref sig .tc := ⟨.hbm, 129, rfl⟩
abbrev main_v96 : Ref sig .tc := ⟨.hbm, 130, rfl⟩
abbrev main_v97 : Ref sig .tc := ⟨.hbm, 131, rfl⟩
abbrev main_c_24 : Ref sig .tc := ⟨.hbm, 132, rfl⟩
abbrev main_v98 : Ref sig .tc := ⟨.hbm, 133, rfl⟩
abbrev main_v99 : Ref sig .tc := ⟨.hbm, 134, rfl⟩
abbrev main_c_25 : Ref sig .tc := ⟨.hbm, 135, rfl⟩
abbrev main_v100 : Ref sig .tc := ⟨.hbm, 136, rfl⟩
abbrev main_v101 : Ref sig .tc := ⟨.hbm, 137, rfl⟩
abbrev main_c_26 : Ref sig .tc := ⟨.hbm, 138, rfl⟩
abbrev main_c_27 : Ref sig .tc := ⟨.hbm, 139, rfl⟩
abbrev main_call2_v0 : Ref sig .tc := ⟨.hbm, 140, rfl⟩
abbrev main_call2_v1 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_c_28 : Ref sig .tc := ⟨.hbm, 146, rfl⟩
abbrev main_v106 : Ref sig .tc := ⟨.hbm, 147, rfl⟩
abbrev main_v107 : Ref sig .tc := ⟨.hbm, 148, rfl⟩
abbrev main_c_29 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_30 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_c_31 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_32 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_33 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_34 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_35 : Ref sig .tc := ⟨.hbm, 189, rfl⟩
abbrev main_call4_v0 : Ref sig .tc := ⟨.hbm, 190, rfl⟩
abbrev main_call4_v1 : Ref sig .tc := ⟨.hbm, 191, rfl⟩
abbrev main_call4_v2 : Ref sig .tc := ⟨.hbm, 192, rfl⟩
abbrev main_v142 : Ref sig .tc := ⟨.hbm, 193, rfl⟩
abbrev main_cst_36 : Ref sig .tc := ⟨.hbm, 194, rfl⟩
abbrev main_v143 : Ref sig .tc := ⟨.hbm, 195, rfl⟩
abbrev main_cst_37 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_38 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_cst_39 : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_v159 : Ref sig .tc := ⟨.hbm, 217, rfl⟩
abbrev main_v160 : Ref sig .tc := ⟨.hbm, 218, rfl⟩

abbrev nD : Nat := 1
abbrev τ : Topo := Topo.v7x

variable {F : FTy → Type} [FloatOps F]
-- ==== Proof.Kernel.Points.lean ====
module

public import proofs.«01_k».proof.Proof.Gen.Kernel
public import Idealize.ShloMosaic.Lib.Pipeline.Kit

@[expose] public section

noncomputable section

namespace Cert.Kernel.Run

open Cert.Kernel Cert.Kernel.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%cst)) is fetched at the first point only, at any contents of the tables (its index map reads none). -/
theorem fetch0_1 (a : (pcfg0 (F := F)).Adm) : ∀ t : Fin (cfg0 a).N, ((cfg0 a).win 1).fetch t = true ↔ t.val % 72 = 0 :=
  (fun t => Pipeline.Window.fetchOf_const cc0_transform_1 (fun _ _ => rfl) (n := 72) (by decide) t : ∀ t : Fin grid0.N, Pipeline.Window.fetchOf grid0 false cc0_transform_1 t = true ↔ t.val % 72 = 0)
/-- Window 2 (operand 3 (%1)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%2)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%3)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%4)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (result 0 (%5#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
/-- Window 7 (result 1 (%5#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _)

end Cert.Kernel.Run

end
-- ==== Proof.Kernel.Runs.lean ====
module

public import proofs.«01_k».proof.Proof.Gen.Kernel.Launch
public import proofs.«01_k».proof.Proof.Gen.Kernel.Skeleton
public import proofs.«01_k».proof.Proof.Gen.Kernel.Loops
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.quiescent_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x24x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3x96x2048 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3x96x2048 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3x4x2048 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3x4x2048 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x24x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x24x2048 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S24x128 .i32 := Memref.whole cc0_scratch0
abbrev scM0_1 : Memref sig .tc .vmem S8x2048 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Run

end
-- ==== Proof.Kernel.RunA.lean ====
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x24x128 .bf16) (harg2 : arg2.IsWhole) (arg3 : Memref sig .tc .vmem S128x128 .bf16) (harg3 : arg3.IsWhole) (arg4 : Memref sig .tc .vmem S1x3x96x2048 .i8) (harg4 : arg4.IsWhole) (arg5 : Memref sig .tc .vmem S1x3x96x2048 .i8) (harg5 : arg5.IsWhole) (arg6 : Memref sig .tc .vmem S1x3x4x2048 .i8) (harg6 : arg6.IsWhole) (arg7 : Memref sig .tc .vmem S1x3x4x2048 .i8) (harg7 : arg7.IsWhole) (arg8 : Memref sig .tc .vmem S1x24x128 .bf16) (harg8 : arg8.IsWhole) (arg9 : Memref sig .tc .vmem S1x24x2048 .f32) (harg9 : arg9.IsWhole) (arg10 : Memref sig .tc .vmem S24x128 .i32) (harg10 : arg10.IsWhole) (arg11 : Memref sig .tc .vmem S8x2048 .f32) (harg11 : arg11.IsWhole)
    (x0 : Vec F S1x24x128 .bf16) (x1 : Vec F S128x128 .bf16) (x2 : Vec F S1x3x96x2048 .i8) (x3 : Vec F S1x3x96x2048 .i8) (x4 : Vec F S1x3x4x2048 .i8) (x5 : Vec F S1x3x4x2048 .i8) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0__body i tbM0_0 htbM0_0 arg2 harg2 arg3 harg3 arg4 harg4 arg5 harg5 arg6 harg6 arg7 harg7 arg8 harg8 arg9 harg9 arg10 harg10 arg11 harg11) K := by
    intro E K
    simp only [cc0__body_eq_skeleton]; unfold cc0__body_skel
    simp only [k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexact HT0

end Cert.Kernel.Run

end
-- ==== Proof.Kernel.Frame.lean ====
module

public import proofs.«01_k».proof.Proof.Kernel.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d)
    ∗ (∃ d, owns (c : Thread nD τ) (ms0_7 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ (∃ d, owns (c : Thread nD τ) (ms0_6 m hO t) fullShare d)
    ∗ (∃ d, owns (c : Thread nD τ) (ms0_7 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HT0]; · iexact HT0
  iintro ⟨H0, H1, H2, H3, H4, H5, H6, H7, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO 0 c).toRForget forgets0) (A_eq m hO) (run_main m ρ hO)

/-- THE FRAME: `Cert.quiescent_Kernel`'s statement (Defs.lean) at any `F`. The hypothesis `Ok m` is `True`: no index map reads the table. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel.Run

end
-- ==== Proof.KernelIdeal.Points.lean ====
module

public import proofs.«01_k».proof.Proof.Gen.KernelIdeal
public import Idealize.ShloMosaic.Lib.Pipeline.Kit

@[expose] public section

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%cst)) is fetched at the first point only, at any contents of the tables (its index map reads none). -/
theorem fetch0_1 (a : (pcfg0 (F := F)).Adm) : ∀ t : Fin (cfg0 a).N, ((cfg0 a).win 1).fetch t = true ↔ t.val % 72 = 0 :=
  (fun t => Pipeline.Window.fetchOf_const cc0_transform_1 (fun _ _ => rfl) (n := 72) (by decide) t : ∀ t : Fin grid0.N, Pipeline.Window.fetchOf grid0 false cc0_transform_1 t = true ↔ t.val % 72 = 0)
/-- Window 2 (operand 3 (%1)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%2)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%3)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%4)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (result 0 (%5#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
/-- Window 7 (result 1 (%5#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _)

end Cert.KernelIdeal.Run

end
-- ==== Proof.KernelIdeal.Runs.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.quiescent_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x24x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3x96x2048 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3x96x2048 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3x4x2048 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3x4x2048 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x24x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x24x2048 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S24x128 .i32 := Memref.whole cc0_scratch0
abbrev scM0_1 : Memref sig .tc .vmem S8x2048 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.KernelIdeal.Clean.lean ====
module

public import proofs.«01_k».proof.Proof.Gen.KernelIdeal.Loops
public import Idealize.ShloMosaic.Lib.Pointwise
public import Idealize.ShloMosaic.Lib.Pipeline.ReadBack

@[expose] public section

set_option maxRecDepth 16384

noncomputable section

/-! The operations of one tile, one chunk of scores and one chunk of the weighted sum, each written once: the three heads
and the two loops of each head run the same operations on different blocks. -/

namespace Cert.KernelIdeal.Clean

open Cert.KernelIdeal Cert.KernelIdeal.Gen
open Idealize.ShloMosaic Idealize.ShloMosaic.TcCoe Idealize.ShloMosaic.Tactic

variable {F : FTy → Type} [FloatOps F] [Named F]

/-- The 8 by 128 words of 32 rows of bytes. -/
def stored (x : Vec F S1x1x32x128 .i8) : IVec S8x128 32 :=
  shapeCast S8x128 (bitcast S8x128 32 (shapeCast S32x128 x shapeCasts_S1x1x32x128_S32x128) bitcasts_S32x128_w8_S8x128_w32) shapeCasts_S8x128_S8x128

/-- Every third row from row `w` on of three stacked 8 by 128 blocks. -/
def wordRow (a0 a1 a2 : IVec S8x128 32) (w : ℕ) : IVec S8x128 32 := fun j =>
  if 3 * (j 0).val + w < 8 then a0 (ix2 ⟨(3 * (j 0).val + w) % 8, Nat.mod_lt _ (by decide)⟩ (j 1)) else
  if 3 * (j 0).val + w < 16 then a1 (ix2 ⟨(3 * (j 0).val + w) % 8, Nat.mod_lt _ (by decide)⟩ (j 1))
  else a2 (ix2 ⟨(3 * (j 0).val + w) % 8, Nat.mod_lt _ (by decide)⟩ (j 1))

/-- A word's nonzero bytes as a mask over the bytes of a block. -/
def byteMask (c : BitVec 32) : IVec S32x128 1 :=
  cmpi .ne (bitcast S32x128 8 (broadcast S8x128 c) bitcasts_S8x128_w32_S32x128_w8) (broadcast S32x128 0#8)

/-- `a`'s bytes where the mask word's are nonzero, `b`'s elsewhere. -/
def sel (c : BitVec 32) (a b : IVec S8x128 32) : IVec S8x128 32 :=
  bitcast S8x128 32 (select (byteMask c) (bitcast S32x128 8 a bitcasts_S8x128_w32_S32x128_w8) (bitcast S32x128 8 b bitcasts_S8x128_w32_S32x128_w8)) bitcasts_S32x128_w8_S8x128_w32

/-- The float a byte's low six bits name: sign, three exponent bits, two mantissa bits. -/
def widen (r : IVec S8x128 32) : FVec F S32x128 .fp8e4m3 :=
  have code : IVec S32x128 32 := extui 32 (bitcast S32x128 8 r bitcasts_S8x128_w32_S32x128_w8) natLt_8_32
  have e : IVec S32x128 32 := andi (shrsi code (broadcast S32x128 2#32)) (broadcast S32x128 7#32)
  have mm : IVec S32x128 32 := andi code (broadcast S32x128 3#32)
  have mag : FVec F S32x128 .f32 := mulf
    (sitofp .f32 (addi (select (cmpi .sgt e (broadcast S32x128 0#32)) (broadcast S32x128 4#32) (broadcast S32x128 0#32)) mm))
    (exp2 (sitofp .f32 (subi (maxsi e (broadcast S32x128 1#32)) (broadcast S32x128 5#32))))
  truncf .fp8e4m3 (select (cmpi .ne (andi (shrsi code (broadcast S32x128 5#32)) (broadcast S32x128 1#32)) (broadcast S32x128 0#32))
    (subf (broadcast S32x128 (Scalar.ofBits .f32 0x00000000#32)) mag) mag) bitsLt_fp8e4m3_f32

/-- The 128 codes of each lane of a tile from its 24 words, three rows of words at a time. -/
def r0 (w0 w1 w2 : IVec S8x128 32) : IVec S8x128 32 := sel 16711935#32 (sel 65535#32 w0 w1) (sel 4278190080#32 w0 w2)
def r2 (w0 w1 w2 : IVec S8x128 32) : IVec S8x128 32 := shrui (sel 16711935#32 (sel 65535#32 w2 w0) (sel 65535#32 w1 w2)) (broadcast S8x128 2#32)
def r4 (w0 w1 w2 : IVec S8x128 32) : IVec S8x128 32 :=
  ori (sel 16711935#32 (shrui (sel 65535#32 w1 w2) (broadcast S8x128 4#32)) (shrui (sel 4278190080#32 w1 w0) (broadcast S8x128 4#32))) (shli w2 (broadcast S8x128 28#32))
def r6 (w0 w1 w2 : IVec S8x128 32) : IVec S8x128 32 :=
  ori (sel 16711935#32 (shrui (sel 65535#32 w0 w1) (broadcast S8x128 6#32)) (shrui (sel 4278190080#32 w0 w2) (broadcast S8x128 6#32))) (shli w1 (broadcast S8x128 26#32))

def unpack (w0 w1 w2 : IVec S8x128 32) : FVec F S128x128 .fp8e4m3 :=
  concatenate S128x128 0 [⟨S32x128, widen (r0 w0 w1 w2)⟩, ⟨S32x128, widen (r2 w0 w1 w2)⟩, ⟨S32x128, widen (r4 w0 w1 w2)⟩, ⟨S32x128, widen (r6 w0 w1 w2)⟩]
    concatenates_S32x128_S32x128_S32x128_S32x128_S128x128_d0

/-- Two tiles side by side: a chunk of 256 positions. -/
def pair (a b : FVec F S128x128 .fp8e4m3) : FVec F S128x256 .fp8e4m3 :=
  concatenate S128x256 1 [⟨S128x128, a⟩, ⟨S128x128, b⟩] concatenates_S128x128_S128x128_S128x256_d1

def tile (x0 x1 x2 : Vec F S1x1x32x128 .i8) : FVec F S128x128 .fp8e4m3 :=
  unpack (wordRow (stored x0) (stored x1) (stored x2) 0) (wordRow (stored x0) (stored x1) (stored x2) 1) (wordRow (stored x0) (stored x1) (stored x2) 2)

/-- The four scales of each position, as floats. -/
def scales (s : Vec F S1x1x4x256 .i8) : FVec F S4x256 .f32 :=
  bitcastToFloat .f32 (shli (extui 32 (shapeCast S4x256 s shapeCasts_S1x1x4x256_S4x256) natLt_8_32) (broadcast S4x256 23#32))

/-- The scaled scores of one chunk. -/
def scores (q4 : FVec F S32x128 .bf16) (k8 : FVec F S128x256 .fp8e4m3) (s : Vec F S1x1x4x256 .i8) : FVec F S8x256 .f32 :=
  have raw : FVec F S32x256 .f32 := matmul dot_S32x128_S128x256_S32x256_1_0_0_1_n_n none q4 k8 (constant S32x256 .f32 0x00000000#32)
  mulf (addf (addf (addf (addf (broadcast S8x256 (Scalar.ofBits .f32 0x00000000#32))
      (mulf (extractStridedSlice S8x256 ![0, 0] raw slices_S32x256_o0_0_S8x256) (broadcastTo S8x256 (extractStridedSlice S1x256 ![0, 0] (scales s) slices_S4x256_o0_0_S1x256) broadcasts_S1x256_S8x256)))
      (mulf (extractStridedSlice S8x256 ![8, 0] raw slices_S32x256_o8_0_S8x256) (broadcastTo S8x256 (extractStridedSlice S1x256 ![1, 0] (scales s) slices_S4x256_o1_0_S1x256) broadcasts_S1x256_S8x256)))
      (mulf (extractStridedSlice S8x256 ![16, 0] raw slices_S32x256_o16_0_S8x256) (broadcastTo S8x256 (extractStridedSlice S1x256 ![2, 0] (scales s) slices_S4x256_o2_0_S1x256) broadcasts_S1x256_S8x256)))
      (mulf (extractStridedSlice S8x256 ![24, 0] raw slices_S32x256_o24_0_S8x256) (broadcastTo S8x256 (extractStridedSlice S1x256 ![3, 0] (scales s) slices_S4x256_o3_0_S1x256) broadcasts_S1x256_S8x256)))
    (broadcast S8x256 (Scalar.ofBits .f32 0x3DB504F3#32))

/-- Which positions of chunk `k` are below the row's length `n`. -/
def valid (n : BitVec 32) (k : ℕ) : IVec S8x256 1 :=
  cmpi .slt (addi (broadcast S8x256 (Scalar.muli (Scf.iv 0#32 1#32 k) 256#32)) (iota .tc S8x256 32 [1] iota_S8x256_d1_w32)) (broadcast S8x256 n)

/-- What one chunk stores into the scores. -/
def zeroed (n : BitVec 32) (k : ℕ) (s : FVec F S8x256 .f32) : FVec F S1x8x256 .f32 :=
  shapeCast S1x8x256 (select (valid n k) s (broadcast S8x256 (Scalar.ofBits .f32 0x00000000#32))) shapeCasts_S8x256_S1x8x256

/-- One chunk's scores, the masked ones at the mask's value. -/
def masked (n : BitVec 32) (k : ℕ) (s : FVec F S8x256 .f32) : FVec F S8x256 .f32 :=
  select (valid n k) s (broadcast S8x256 (Named.named κ "mask" 0xF149F2CA#32))

/-- The running row maxima after a chunk. -/
def rowMax (acc : FVec F S8x1 .f32) (s : FVec F S8x256 .f32) : FVec F S8x1 .f32 :=
  maximumf acc (shapeCast S8x1 (multiReduction .maximumf [1] S8 s 0xFF800000#32 reduces_S8x256_S8 (.inl rfl) rfl) shapeCasts_S8_S8x1)

/-- One chunk of the weighted sums. -/
def weigh (acc : FVec F S32x128 .f32) (v8 : FVec F S128x256 .fp8e4m3) (p : Vec F S8x256 .f32) (s : Vec F S1x1x4x256 .i8) : FVec F S32x128 .f32 :=
  have pb : FVec F S8x256 .bf16 := truncf .bf16 p bitsLt_bf16_f32
  have sc : FVec F S4x256 .bf16 := truncf .bf16 (scales s) bitsLt_bf16_f32
  addf acc (matmul dot_S32x256_S128x256_S32x128_1_1_0_0_n_n none
    (concatenate S32x256 0 [⟨S8x256, mulf pb (broadcastTo S8x256 (extractStridedSlice S1x256 ![0, 0] sc slices_S4x256_o0_0_S1x256) broadcasts_S1x256_S8x256)⟩,
      ⟨S8x256, mulf pb (broadcastTo S8x256 (extractStridedSlice S1x256 ![1, 0] sc slices_S4x256_o1_0_S1x256) broadcasts_S1x256_S8x256)⟩,
      ⟨S8x256, mulf pb (broadcastTo S8x256 (extractStridedSlice S1x256 ![2, 0] sc slices_S4x256_o2_0_S1x256) broadcasts_S1x256_S8x256)⟩,
      ⟨S8x256, mulf pb (broadcastTo S8x256 (extractStridedSlice S1x256 ![3, 0] sc slices_S4x256_o3_0_S1x256) broadcasts_S1x256_S8x256)⟩]
      concatenates_S8x256_S8x256_S8x256_S8x256_S32x256_d0) v8 (constant S32x128 .f32 0x00000000#32))

/-- Rows `32 r` to `32 r + 31` of head `h`'s byte rows, at the 128 positions from `col` on. -/
def bytes (X : Vec F S1x3x96x2048 .i8) (h : Fin 3) (r col : ℕ) : Vec F S1x1x32x128 .i8 := fun j =>
  X (ix4 0 h ⟨(32 * r + (j 2).val) % 96, Nat.mod_lt _ (by decide)⟩ ⟨(col + (j 3).val) % 2048, Nat.mod_lt _ (by decide)⟩)

/-- Head `h`'s scales at chunk `k`. -/
def scaleBytes (S : Vec F S1x3x4x2048 .i8) (h : Fin 3) (k : ℕ) : Vec F S1x1x4x256 .i8 := fun j =>
  S (ix4 0 h (j 2) ⟨(256 * k + (j 3).val) % 2048, Nat.mod_lt _ (by decide)⟩)

/-- The weights of chunk `k`. -/
def columns (P : Vec F S8x2048 .f32) (k : ℕ) : Vec F S8x256 .f32 := fun j =>
  P (ix2 (j 0) ⟨(256 * k + (j 1).val) % 2048, Nat.mod_lt _ (by decide)⟩)

/-- Head `h`'s values at chunk `k`: two tiles of 128 positions. -/
def chunk (X : Vec F S1x3x96x2048 .i8) (h : Fin 3) (k : ℕ) : FVec F S128x256 .fp8e4m3 :=
  pair (tile (bytes X h 0 (256 * k)) (bytes X h 1 (256 * k)) (bytes X h 2 (256 * k)))
    (tile (bytes X h 0 (256 * k + 128)) (bytes X h 1 (256 * k + 128)) (bytes X h 2 (256 * k + 128)))

theorem ld_bytes (X : Vec F S1x3x96x2048 .i8) (h : Fin 3) (r col : ℕ) (hr : r < 3) (hc : col + 128 ≤ 2048) (off : Fin 4 → ℕ)
    (ho : off = ![0, h.val, 32 * r, col]) (inb : ∀ a, off a + S1x1x32x128.size a ≤ S1x3x96x2048.size a) :
    View.ld X (Rect.unit off S1x1x32x128.size inb) = bytes X h r col := by
  subst ho
  funext j
  idx_vars j
  pointwise [bytes]
  congr 2 <;> apply Fin.ext <;> simp <;> omega

theorem ld_scaleBytes (S : Vec F S1x3x4x2048 .i8) (h : Fin 3) (k : ℕ) (hk : k < 8) (off : Fin 4 → ℕ)
    (ho : off = ![0, h.val, 0, 256 * k]) (inb : ∀ a, off a + S1x1x4x256.size a ≤ S1x3x4x2048.size a) :
    View.ld S (Rect.unit off S1x1x4x256.size inb) = scaleBytes S h k := by
  subst ho
  funext j
  idx_vars j
  pointwise [scaleBytes]
  congr 2 <;> apply Fin.ext <;> simp <;> omega

theorem ld_columns (P : Vec F S8x2048 .f32) (k : ℕ) (hk : k < 8) (off : Fin 2 → ℕ)
    (ho : off = ![0, 256 * k]) (inb : ∀ a, off a + S8x256.size a ≤ S8x2048.size a) :
    View.ld P (Rect.unit off S8x256.size inb) = columns P k := by
  subst ho
  funext j
  idx_vars j
  pointwise [columns]
  congr 2 <;> apply Fin.ext <;> simp <;> omega

section Canon

variable {Val : EltTy → Type} [∀ e, Nonempty (Val e)] {s : Shape} {e : EltTy}

/-- An index at position `x` of the newest store's rectangle reads that store's value at `x`. -/
theorem canon_unit_of_mem {off off' size : Fin s.rank → ℕ} (inb : ∀ a, off a + size a ≤ s.size a)
    (w : (Rect.unit off size inb).shape.Idx → Val e) (L : List (View.Piece Val s e)) (y : s.Idx)
    (x : (Rect.unit off size inb).shape.Idx) (heq : off = off') (hx : ∀ a, (y a).val = off' a + (x a).val) :
    View.canon ((⟨Rect.unit off size inb, w⟩ : View.Piece Val s e) :: L) y = w x := by
  subst heq
  have hy : (Rect.unit off size inb).emb x = y := funext fun a => Fin.ext (by
    show off a + 1 * (x a).val = (y a).val
    rw [hx a, Nat.one_mul])
  rw [← hy]
  exact View.canon_cons_emb _ w L x

/-- An index outside it on some axis reads the earlier stores. -/
theorem canon_unit_of_not_mem {off off' size : Fin s.rank → ℕ} (inb : ∀ a, off a + size a ≤ s.size a)
    (w : (Rect.unit off size inb).shape.Idx → Val e) (L : List (View.Piece Val s e)) (y : s.Idx) (heq : off = off')
    (a : Fin s.rank) (ha : (y a).val < off' a ∨ off' a + size a ≤ (y a).val) :
    View.canon ((⟨Rect.unit off size inb, w⟩ : View.Piece Val s e) :: L) y = View.canon L y := by
  subst heq
  refine View.canon_cons_of_not_mem _ L fun hm => ?_
  have := (Rect.mem_set_unit (inb := inb)).mp hm a
  omega

end Canon

/-- A read of every third row from row `w` on, after the three blocks of rows are stored: it does not see what was there
before. -/
theorem readCov_rows {sig : RefSig} {κ : Kind} {sp : Space} (v : View sig κ sp S24x128 .i32) (a0 a1 a2 : IVec S8x128 32)
    (L : List (View.Piece (Elt F) S24x128 .i32)) (w : ℕ) (hw : w < 3) (h0 h1 h2 inb) :
    v.readCov ((⟨Rect.unit ![16, 0] S8x128.size h2, a2⟩ : View.Piece (Elt F) S24x128 .i32) :: ⟨Rect.unit ![8, 0] S8x128.size h1, a1⟩ :: ⟨Rect.unit ![0, 0] S8x128.size h0, a0⟩ :: L)
      (⟨![w, 0], S8x128.size, ![3, 1], inb⟩ : LoadRect S24x128) = wordRow a0 a1 a2 w := by
  rw [View.readCov_eq_canon']
  funext j
  idx_vars j
  have hj := j0.isLt
  have e : (⟨![w, 0], S8x128.size, ![3, 1], inb⟩ : LoadRect S24x128).idx (ix2 j0 j1) = ix2 ⟨3 * j0.val + w, by omega⟩ j1 := by
    funext a
    apply Fin.ext
    fin_cases a
    · show w + 3 * j0.val = 3 * j0.val + w
      omega
    · show 0 + 1 * j1.val = j1.val
      omega
  have hm : (3 * j0.val + w) % 8 < 8 := Nat.mod_lt _ (by decide)
  simp only [e, wordRow]
  show _ = if 3 * j0.val + w < 8 then a0 (ix2 ⟨(3 * j0.val + w) % 8, hm⟩ j1) else if 3 * j0.val + w < 16 then a1 (ix2 ⟨(3 * j0.val + w) % 8, hm⟩ j1) else a2 (ix2 ⟨(3 * j0.val + w) % 8, hm⟩ j1)
  by_cases c1 : 3 * j0.val + w < 16
  · refine (canon_unit_of_not_mem (Val := Elt F) (s := S24x128) (e := .i32) h2 a2 _ _ rfl (0 : Fin 2) (Or.inl c1)).trans ?_
    by_cases c0 : 3 * j0.val + w < 8
    · refine (canon_unit_of_not_mem (Val := Elt F) (s := S24x128) (e := .i32) h1 a1 _ _ rfl (0 : Fin 2) (Or.inl c0)).trans ?_
      rw [if_pos c0]
      exact canon_unit_of_mem (Val := Elt F) (s := S24x128) (e := .i32) h0 a0 _ _ (ix2 ⟨(3 * j0.val + w) % 8, hm⟩ j1) rfl (by
        intro a; fin_cases a
        · show 3 * j0.val + w = 0 + (3 * j0.val + w) % 8; omega
        · show j1.val = 0 + j1.val; omega)
    · rw [if_neg c0, if_pos c1]
      exact canon_unit_of_mem (Val := Elt F) (s := S24x128) (e := .i32) h1 a1 _ _ (ix2 ⟨(3 * j0.val + w) % 8, hm⟩ j1) rfl (by
        intro a; fin_cases a
        · show 3 * j0.val + w = 8 + (3 * j0.val + w) % 8; omega
        · show j1.val = 0 + j1.val; omega)
  · rw [if_neg (by omega), if_neg c1]
    exact canon_unit_of_mem (Val := Elt F) (s := S24x128) (e := .i32) h2 a2 _ _ (ix2 ⟨(3 * j0.val + w) % 8, hm⟩ j1) rfl (by
      intro a; fin_cases a
      · show 3 * j0.val + w = 16 + (3 * j0.val + w) % 8; omega
      · show j1.val = 0 + j1.val; omega)

end Cert.KernelIdeal.Clean

end
-- ==== Proof.KernelIdeal.Trips.lean ====
module

public import proofs.«01_k».proof.Proof.KernelIdeal.Clean

@[expose] public section

set_option maxRecDepth 16384

noncomputable section

/-! One trip of each loop, as the shared operations of `Clean` on what the trip reads. -/

namespace Cert.KernelIdeal.Clean

open Cert.KernelIdeal Cert.KernelIdeal.Gen
open Idealize.ShloMosaic Idealize.ShloMosaic.TcCoe Idealize.ShloMosaic.Tactic

variable {F : FTy → Type} [FloatOps F] [Named F]

section Read

variable {sig : RefSig} {κ κ' : Kind} {sp sp' : Space} (w : View sig κ sp S24x128 .i32) (v : View sig κ' sp' S1x3x96x2048 .i8)
  (X : BufTy.Contents (Elt F) v.ty)

/-- The stores of a tile's three blocks of words, the last first, before the stores `L`. -/
def stores (x0 x1 x2 : Vec F S1x1x32x128 .i8) (L : List (View.Piece (Elt F) S24x128 .i32)) : List (View.Piece (Elt F) S24x128 .i32) :=
  (⟨Rect.unit ![16, 0] S8x128.size inb_S24x128_S8x128_16_0, stored x2⟩ : View.Piece (Elt F) S24x128 .i32) ::
    ⟨Rect.unit ![8, 0] S8x128.size inb_S24x128_S8x128_8_0, stored x1⟩ :: ⟨Rect.unit ![0, 0] S8x128.size inb_S24x128_S8x128_0_0, stored x0⟩ :: L

/-- A tile unpacked from what the stores left in the words. -/
def readTile (x0 x1 x2 : Vec F S1x1x32x128 .i8) (L : List (View.Piece (Elt F) S24x128 .i32)) : FVec F S128x128 .fp8e4m3 :=
  unpack (w.readCov (stores x0 x1 x2 L) (⟨![0, 0], S8x128.size, ![3, 1], inb_S24x128_S8x128_0_0_s_3_1⟩ : LoadRect S24x128))
    (w.readCov (stores x0 x1 x2 L) (⟨![1, 0], S8x128.size, ![3, 1], inb_S24x128_S8x128_1_0_s_3_1⟩ : LoadRect S24x128))
    (w.readCov (stores x0 x1 x2 L) (⟨![2, 0], S8x128.size, ![3, 1], inb_S24x128_S8x128_2_0_s_3_1⟩ : LoadRect S24x128))

theorem readTile_eq (x0 x1 x2 : Vec F S1x1x32x128 .i8) (L : List (View.Piece (Elt F) S24x128 .i32)) :
    readTile w x0 x1 x2 L = tile x0 x1 x2 := by
  unfold readTile stores tile
  rw [readCov_rows w _ _ _ L 0 (by decide), readCov_rows w _ _ _ L 1 (by decide), readCov_rows w _ _ _ L 2 (by decide)]

/-- The rectangle of 32 byte rows by 128 positions at an offset. -/
abbrev tileRect (off : Fin 4 → ℕ) (inb : ∀ a, off a + S1x1x32x128.size a ≤ S1x3x96x2048.size a) : LoadRect S1x3x96x2048 :=
  (Rect.unit (s := S1x3x96x2048) off S1x1x32x128.size inb).toLoadRect

/-- A chunk read as two tiles, each through the words. -/
def readChunk (a0 a1 a2 b0 b1 b2 : Fin 4 → ℕ) (ia0 : ∀ a, a0 a + S1x1x32x128.size a ≤ S1x3x96x2048.size a) (ia1 : ∀ a, a1 a + S1x1x32x128.size a ≤ S1x3x96x2048.size a) (ia2 : ∀ a, a2 a + S1x1x32x128.size a ≤ S1x3x96x2048.size a) (ib0 : ∀ a, b0 a + S1x1x32x128.size a ≤ S1x3x96x2048.size a) (ib1 : ∀ a, b1 a + S1x1x32x128.size a ≤ S1x3x96x2048.size a) (ib2 : ∀ a, b2 a + S1x1x32x128.size a ≤ S1x3x96x2048.size a) : FVec F S128x256 .fp8e4m3 :=
  pair (readTile w (View.readAt (Elt F) v (tileRect a0 ia0) X) (View.readAt (Elt F) v (tileRect a1 ia1) X) (View.readAt (Elt F) v (tileRect a2 ia2) X) [])
    (readTile w (View.readAt (Elt F) v (tileRect b0 ib0) X) (View.readAt (Elt F) v (tileRect b1 ib1) X) (View.readAt (Elt F) v (tileRect b2 ib2) X)
      (stores (View.readAt (Elt F) v (tileRect a0 ia0) X) (View.readAt (Elt F) v (tileRect a1 ia1) X) (View.readAt (Elt F) v (tileRect a2 ia2) X) []))

theorem readChunk_eq (h : Fin 3) (k : ℕ) (hk : k < 8) (a0 a1 a2 b0 b1 b2 : Fin 4 → ℕ) (ia0 : ∀ a, a0 a + S1x1x32x128.size a ≤ S1x3x96x2048.size a) (ia1 : ∀ a, a1 a + S1x1x32x128.size a ≤ S1x3x96x2048.size a) (ia2 : ∀ a, a2 a + S1x1x32x128.size a ≤ S1x3x96x2048.size a) (ib0 : ∀ a, b0 a + S1x1x32x128.size a ≤ S1x3x96x2048.size a) (ib1 : ∀ a, b1 a + S1x1x32x128.size a ≤ S1x3x96x2048.size a) (ib2 : ∀ a, b2 a + S1x1x32x128.size a ≤ S1x3x96x2048.size a)
    (ha0 : a0 = ![0, h.val, 32 * 0, 256 * k]) (ha1 : a1 = ![0, h.val, 32 * 1, 256 * k]) (ha2 : a2 = ![0, h.val, 32 * 2, 256 * k])
    (hb0 : b0 = ![0, h.val, 32 * 0, 256 * k + 128]) (hb1 : b1 = ![0, h.val, 32 * 1, 256 * k + 128]) (hb2 : b2 = ![0, h.val, 32 * 2, 256 * k + 128]) :
    readChunk w v X a0 a1 a2 b0 b1 b2 ia0 ia1 ia2 ib0 ib1 ib2 = chunk (v.read (Elt F) X) h k := by
  unfold readChunk chunk
  rw [readTile_eq, readTile_eq]
  congr 2
  · exact ld_bytes _ h 0 _ (by decide) (by omega) a0 ha0 ia0
  · exact ld_bytes _ h 1 _ (by decide) (by omega) a1 ha1 ia1
  · exact ld_bytes _ h 2 _ (by decide) (by omega) a2 ha2 ia2
  · exact ld_bytes _ h 0 _ (by decide) (by omega) b0 hb0 ib0
  · exact ld_bytes _ h 1 _ (by decide) (by omega) b1 hb1 ib1
  · exact ld_bytes _ h 2 _ (by decide) (by omega) b2 hb2 ib2

end Read

variable (𝒱 : Variants) (c : Dev nD) (bd : Option 𝒱.V) (i : grid0.Coords) (arg1 : Memref sig .tc .smem S72 .i32) (harg1 : arg1.IsWhole) (arg2 : Memref sig .tc .vmem S1x24x128 .bf16) (harg2 : arg2.IsWhole) (arg3 : Memref sig .tc .vmem S128x128 .bf16) (harg3 : arg3.IsWhole) (arg4 : Memref sig .tc .vmem S1x3x96x2048 .i8) (harg4 : arg4.IsWhole) (arg5 : Memref sig .tc .vmem S1x3x96x2048 .i8) (harg5 : arg5.IsWhole) (arg6 : Memref sig .tc .vmem S1x3x4x2048 .i8) (harg6 : arg6.IsWhole) (arg7 : Memref sig .tc .vmem S1x3x4x2048 .i8) (harg7 : arg7.IsWhole) (arg8 : Memref sig .tc .vmem S1x24x128 .bf16) (harg8 : arg8.IsWhole) (arg9 : Memref sig .tc .vmem S1x24x2048 .f32) (harg9 : arg9.IsWhole) (arg10 : Memref sig .tc .vmem S24x128 .i32) (harg10 : arg10.IsWhole) (arg11 : Memref sig .tc .vmem S8x2048 .f32) (harg11 : arg11.IsWhole)

/-- Loop 1's two tiles, as the trip reads them: head 0's chunk. -/
theorem chunk_t1 (X_arg4 : BufTy.Contents (Elt F) arg4.view.ty) (k : Fin k0_t1_loop.trips) :
    pair (trip_k0_t1.sl.v412 (F := F) arg4 arg10 X_arg4 k) (trip_k0_t1.sl.v638 (F := F) arg4 arg10 X_arg4 k)
      = chunk (arg4.view.read (Elt F) X_arg4) 0 k := by
  have hk : k.val < 8 := Nat.lt_of_lt_of_le k.isLt k0_t1_abs.2.1
  have eA : trip_k0_t1.sl.v412 (F := F) arg4 arg10 X_arg4 k = readTile arg10.view (View.readAt (Elt F) arg4.view (tileRect (k0_off2 k 0#32) (k0_off2_inb k 0)) X_arg4) (View.readAt (Elt F) arg4.view (tileRect (k0_off3 k 0#32) (k0_off3_inb k 0)) X_arg4) (View.readAt (Elt F) arg4.view (tileRect (k0_off4 k 0#32) (k0_off4_inb k 0)) X_arg4) [] := rfl
  have eB : trip_k0_t1.sl.v638 (F := F) arg4 arg10 X_arg4 k = readTile arg10.view (View.readAt (Elt F) arg4.view (tileRect (k0_off2 k 128#32) (k0_off2_inb k 1)) X_arg4) (View.readAt (Elt F) arg4.view (tileRect (k0_off3 k 128#32) (k0_off3_inb k 1)) X_arg4) (View.readAt (Elt F) arg4.view (tileRect (k0_off4 k 128#32) (k0_off4_inb k 1)) X_arg4) (stores (View.readAt (Elt F) arg4.view (tileRect (k0_off2 k 0#32) (k0_off2_inb k 0)) X_arg4) (View.readAt (Elt F) arg4.view (tileRect (k0_off3 k 0#32) (k0_off3_inb k 0)) X_arg4) (View.readAt (Elt F) arg4.view (tileRect (k0_off4 k 0#32) (k0_off4_inb k 0)) X_arg4) []) := rfl
  rw [eA, eB]
  exact readChunk_eq arg10.view arg4.view X_arg4 0 k.val hk _ _ _ _ _ _ _ _ _ _ _ _ (k0_off2_eq k 0) (k0_off3_eq k 0) (k0_off4_eq k 0) (k0_off2_eq k 1) (k0_off3_eq k 1) (k0_off4_eq k 1)

theorem trip1_R (v1 : Elt F .i32) (v2 : Vec F S128x128 .bf16) (v4 : IVec S32x128 32) (v22 : IVec S32x128 32) (v41 : IVec S32x128 1) (v43 : IVec S32x128 32) (v70 : Vec F S1x8x128 .bf16) (X_arg4 : BufTy.Contents (Elt F) arg4.view.ty) (X_arg6 : BufTy.Contents (Elt F) arg6.view.ty) (k : Fin k0_t1_loop.trips) (acc : FVec F S8x1 .f32) (f_arg9 : BufTy.Contents (Elt F) arg9.view.ty) (f_arg10 : BufTy.Contents (Elt F) arg10.view.ty) (f_arg11 : BufTy.Contents (Elt F) arg11.view.ty) :
    (trip_k0_t1 (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 k).1 acc f_arg9 f_arg10 f_arg11
      = rowMax acc (masked v1 k (scores (k0_pay401 v2 v4 v22 v41 v43 v70) (chunk (arg4.view.read (Elt F) X_arg4) 0 k) (scaleBytes (arg6.view.read (Elt F) X_arg6) 0 k))) := by
  have hk : k.val < 8 := Nat.lt_of_lt_of_le k.isLt k0_t1_abs.2.1
  rw [← chunk_t1 (arg10 := arg10), ← ld_scaleBytes _ 0 k.val hk _ (k0_off5_eq k) (k0_off5_inb k)]
  unfold trip_k0_t1
  dsimp only
  rfl

theorem trip1_L9 (v1 : Elt F .i32) (v2 : Vec F S128x128 .bf16) (v4 : IVec S32x128 32) (v22 : IVec S32x128 32) (v41 : IVec S32x128 1) (v43 : IVec S32x128 32) (v70 : Vec F S1x8x128 .bf16) (X_arg4 : BufTy.Contents (Elt F) arg4.view.ty) (X_arg6 : BufTy.Contents (Elt F) arg6.view.ty) (k : Fin k0_t1_loop.trips) (acc : FVec F S8x1 .f32) (f_arg9 : BufTy.Contents (Elt F) arg9.view.ty) (f_arg10 : BufTy.Contents (Elt F) arg10.view.ty) (f_arg11 : BufTy.Contents (Elt F) arg11.view.ty) :
    (trip_k0_t1 (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 k).2.1 acc f_arg9 f_arg10 f_arg11
      = [(⟨Rect.unit (k0_off6 k) S1x8x256.size (k0_off6_inb k), zeroed v1 k (scores (k0_pay401 v2 v4 v22 v41 v43 v70) (chunk (arg4.view.read (Elt F) X_arg4) 0 k) (scaleBytes (arg6.view.read (Elt F) X_arg6) 0 k))⟩ : View.Piece (Elt F) S1x24x2048 .f32)] := by
  have hk : k.val < 8 := Nat.lt_of_lt_of_le k.isLt k0_t1_abs.2.1
  rw [← chunk_t1 (arg10 := arg10), ← ld_scaleBytes _ 0 k.val hk _ (k0_off5_eq k) (k0_off5_inb k)]
  unfold trip_k0_t1
  dsimp only
  rfl

theorem trip1_L11 (v1 : Elt F .i32) (v2 : Vec F S128x128 .bf16) (v4 : IVec S32x128 32) (v22 : IVec S32x128 32) (v41 : IVec S32x128 1) (v43 : IVec S32x128 32) (v70 : Vec F S1x8x128 .bf16) (X_arg4 : BufTy.Contents (Elt F) arg4.view.ty) (X_arg6 : BufTy.Contents (Elt F) arg6.view.ty) (k : Fin k0_t1_loop.trips) (acc : FVec F S8x1 .f32) (f_arg9 : BufTy.Contents (Elt F) arg9.view.ty) (f_arg10 : BufTy.Contents (Elt F) arg10.view.ty) (f_arg11 : BufTy.Contents (Elt F) arg11.view.ty) :
    (trip_k0_t1 (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 k).2.2.2.1 acc f_arg9 f_arg10 f_arg11
      = [(⟨Rect.unit (k0_off7 k) S8x256.size (k0_off7_inb k), masked v1 k (scores (k0_pay401 v2 v4 v22 v41 v43 v70) (chunk (arg4.view.read (Elt F) X_arg4) 0 k) (scaleBytes (arg6.view.read (Elt F) X_arg6) 0 k))⟩ : View.Piece (Elt F) S8x2048 .f32)] := by
  have hk : k.val < 8 := Nat.lt_of_lt_of_le k.isLt k0_t1_abs.2.1
  rw [← chunk_t1 (arg10 := arg10), ← ld_scaleBytes _ 0 k.val hk _ (k0_off5_eq k) (k0_off5_inb k)]
  unfold trip_k0_t1
  dsimp only
  exact congrArg (fun x => [(⟨_, x⟩ : View.Piece (Elt F) S8x2048 .f32)]) (shapeCast_self _ _)

/-- Loop 2's two tiles, as the trip reads them: head 0's chunk. -/
theorem chunk_t2 (X_arg5 : BufTy.Contents (Elt F) arg5.view.ty) (k : Fin k0_t2_loop.trips) :
    pair (trip_k0_t2.sl.v412 (F := F) arg5 arg10 X_arg5 k) (trip_k0_t2.sl.v638 (F := F) arg5 arg10 X_arg5 k)
      = chunk (arg5.view.read (Elt F) X_arg5) 0 k := by
  have hk : k.val < 8 := Nat.lt_of_lt_of_le k.isLt k0_t2_abs.2.1
  have eA : trip_k0_t2.sl.v412 (F := F) arg5 arg10 X_arg5 k = readTile arg10.view (View.readAt (Elt F) arg5.view (tileRect (k0_off8 k 0#32) (k0_off8_inb k 0)) X_arg5) (View.readAt (Elt F) arg5.view (tileRect (k0_off9 k 0#32) (k0_off9_inb k 0)) X_arg5) (View.readAt (Elt F) arg5.view (tileRect (k0_off10 k 0#32) (k0_off10_inb k 0)) X_arg5) [] := rfl
  have eB : trip_k0_t2.sl.v638 (F := F) arg5 arg10 X_arg5 k = readTile arg10.view (View.readAt (Elt F) arg5.view (tileRect (k0_off8 k 128#32) (k0_off8_inb k 1)) X_arg5) (View.readAt (Elt F) arg5.view (tileRect (k0_off9 k 128#32) (k0_off9_inb k 1)) X_arg5) (View.readAt (Elt F) arg5.view (tileRect (k0_off10 k 128#32) (k0_off10_inb k 1)) X_arg5) (stores (View.readAt (Elt F) arg5.view (tileRect (k0_off8 k 0#32) (k0_off8_inb k 0)) X_arg5) (View.readAt (Elt F) arg5.view (tileRect (k0_off9 k 0#32) (k0_off9_inb k 0)) X_arg5) (View.readAt (Elt F) arg5.view (tileRect (k0_off10 k 0#32) (k0_off10_inb k 0)) X_arg5) []) := rfl
  rw [eA, eB]
  exact readChunk_eq arg10.view arg5.view X_arg5 0 k.val hk _ _ _ _ _ _ _ _ _ _ _ _ (k0_off8_eq k 0) (k0_off9_eq k 0) (k0_off10_eq k 0) (k0_off8_eq k 1) (k0_off9_eq k 1) (k0_off10_eq k 1)

/-- Head 0's weighted sum after a chunk, on what the trip reads. -/
theorem trip2_R (v1 : Elt F .i32) (v2 : Vec F S128x128 .bf16) (v69 : IVec S32x128 1) (v83 : FVec F S8x2048 .f32) (X_arg5 : BufTy.Contents (Elt F) arg5.view.ty) (X_arg7 : BufTy.Contents (Elt F) arg7.view.ty) (X_arg11 : BufTy.Contents (Elt F) arg11.view.ty) (k : Fin k0_t2_loop.trips) (acc : FVec F S32x128 .f32) (f_arg10 : BufTy.Contents (Elt F) arg10.view.ty) :
    (trip_k0_t2 (F := F) 𝒱 c bd i arg1 harg1 arg2 harg2 arg3 harg3 arg4 harg4 arg5 harg5 arg6 harg6 arg7 harg7 arg8 harg8 arg9 harg9 arg10 harg10 arg11 harg11 v1 v2 v69 v83 X_arg5 X_arg7 X_arg11 k).1 acc f_arg10
      = weigh acc (chunk (arg5.view.read (Elt F) X_arg5) 0 k) (columns (arg11.view.read (Elt F) X_arg11) k) (scaleBytes (arg7.view.read (Elt F) X_arg7) 0 k) := by
  have hk : k.val < 8 := Nat.lt_of_lt_of_le k.isLt k0_t2_abs.2.1
  rw [← chunk_t2 (arg10 := arg10), ← ld_columns _ k.val hk _ (k0_off11_eq k) (k0_off11_inb k), ← ld_scaleBytes _ 0 k.val hk _ (k0_off12_eq k) (k0_off12_inb k)]
  unfold trip_k0_t2
  dsimp only
  rfl

/-- Loop 3's two tiles, as the trip reads them: head 1's chunk. -/
theorem chunk_t3 (X_arg4 : BufTy.Contents (Elt F) arg4.view.ty) (k : Fin k0_t3_loop.trips) :
    pair (trip_k0_t3.sl.v412 (F := F) arg4 arg10 X_arg4 k) (trip_k0_t3.sl.v638 (F := F) arg4 arg10 X_arg4 k)
      = chunk (arg4.view.read (Elt F) X_arg4) 1 k := by
  have hk : k.val < 8 := Nat.lt_of_lt_of_le k.isLt k0_t3_abs.2.1
  have eA : trip_k0_t3.sl.v412 (F := F) arg4 arg10 X_arg4 k = readTile arg10.view (View.readAt (Elt F) arg4.view (tileRect (k0_off13 k 0#32) (k0_off13_inb k 0)) X_arg4) (View.readAt (Elt F) arg4.view (tileRect (k0_off14 k 0#32) (k0_off14_inb k 0)) X_arg4) (View.readAt (Elt F) arg4.view (tileRect (k0_off15 k 0#32) (k0_off15_inb k 0)) X_arg4) [] := rfl
  have eB : trip_k0_t3.sl.v638 (F := F) arg4 arg10 X_arg4 k = readTile arg10.view (View.readAt (Elt F) arg4.view (tileRect (k0_off13 k 128#32) (k0_off13_inb k 1)) X_arg4) (View.readAt (Elt F) arg4.view (tileRect (k0_off14 k 128#32) (k0_off14_inb k 1)) X_arg4) (View.readAt (Elt F) arg4.view (tileRect (k0_off15 k 128#32) (k0_off15_inb k 1)) X_arg4) (stores (View.readAt (Elt F) arg4.view (tileRect (k0_off13 k 0#32) (k0_off13_inb k 0)) X_arg4) (View.readAt (Elt F) arg4.view (tileRect (k0_off14 k 0#32) (k0_off14_inb k 0)) X_arg4) (View.readAt (Elt F) arg4.view (tileRect (k0_off15 k 0#32) (k0_off15_inb k 0)) X_arg4) []) := rfl
  rw [eA, eB]
  exact readChunk_eq arg10.view arg4.view X_arg4 1 k.val hk _ _ _ _ _ _ _ _ _ _ _ _ (k0_off13_eq k 0) (k0_off14_eq k 0) (k0_off15_eq k 0) (k0_off13_eq k 1) (k0_off14_eq k 1) (k0_off15_eq k 1)

theorem trip3_R (v1 : Elt F .i32) (v2 : Vec F S128x128 .bf16) (v69 : IVec S32x128 1) (v83 : FVec F S8x2048 .f32) (v109 : Vec F S1x8x128 .bf16) (X_arg4 : BufTy.Contents (Elt F) arg4.view.ty) (X_arg6 : BufTy.Contents (Elt F) arg6.view.ty) (k : Fin k0_t3_loop.trips) (acc : FVec F S8x1 .f32) (f_arg9 : BufTy.Contents (Elt F) arg9.view.ty) (f_arg10 : BufTy.Contents (Elt F) arg10.view.ty) (f_arg11 : BufTy.Contents (Elt F) arg11.view.ty) :
    (trip_k0_t3 (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 k).1 acc f_arg9 f_arg10 f_arg11
      = rowMax acc (masked v1 k (scores (k0_pay409 v2 v69 v109) (chunk (arg4.view.read (Elt F) X_arg4) 1 k) (scaleBytes (arg6.view.read (Elt F) X_arg6) 1 k))) := by
  have hk : k.val < 8 := Nat.lt_of_lt_of_le k.isLt k0_t3_abs.2.1
  rw [← chunk_t3 (arg10 := arg10), ← ld_scaleBytes _ 1 k.val hk _ (k0_off16_eq k) (k0_off16_inb k)]
  unfold trip_k0_t3
  dsimp only
  rfl

theorem trip3_L9 (v1 : Elt F .i32) (v2 : Vec F S128x128 .bf16) (v69 : IVec S32x128 1) (v83 : FVec F S8x2048 .f32) (v109 : Vec F S1x8x128 .bf16) (X_arg4 : BufTy.Contents (Elt F) arg4.view.ty) (X_arg6 : BufTy.Contents (Elt F) arg6.view.ty) (k : Fin k0_t3_loop.trips) (acc : FVec F S8x1 .f32) (f_arg9 : BufTy.Contents (Elt F) arg9.view.ty) (f_arg10 : BufTy.Contents (Elt F) arg10.view.ty) (f_arg11 : BufTy.Contents (Elt F) arg11.view.ty) :
    (trip_k0_t3 (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 k).2.1 acc f_arg9 f_arg10 f_arg11
      = [(⟨Rect.unit (k0_off17 k) S1x8x256.size (k0_off17_inb k), zeroed v1 k (scores (k0_pay409 v2 v69 v109) (chunk (arg4.view.read (Elt F) X_arg4) 1 k) (scaleBytes (arg6.view.read (Elt F) X_arg6) 1 k))⟩ : View.Piece (Elt F) S1x24x2048 .f32)] := by
  have hk : k.val < 8 := Nat.lt_of_lt_of_le k.isLt k0_t3_abs.2.1
  rw [← chunk_t3 (arg10 := arg10), ← ld_scaleBytes _ 1 k.val hk _ (k0_off16_eq k) (k0_off16_inb k)]
  unfold trip_k0_t3
  dsimp only
  rfl

theorem trip3_L11 (v1 : Elt F .i32) (v2 : Vec F S128x128 .bf16) (v69 : IVec S32x128 1) (v83 : FVec F S8x2048 .f32) (v109 : Vec F S1x8x128 .bf16) (X_arg4 : BufTy.Contents (Elt F) arg4.view.ty) (X_arg6 : BufTy.Contents (Elt F) arg6.view.ty) (k : Fin k0_t3_loop.trips) (acc : FVec F S8x1 .f32) (f_arg9 : BufTy.Contents (Elt F) arg9.view.ty) (f_arg10 : BufTy.Contents (Elt F) arg10.view.ty) (f_arg11 : BufTy.Contents (Elt F) arg11.view.ty) :
    (trip_k0_t3 (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 k).2.2.2.1 acc f_arg9 f_arg10 f_arg11
      = [(⟨Rect.unit (k0_off18 k) S8x256.size (k0_off18_inb k), masked v1 k (scores (k0_pay409 v2 v69 v109) (chunk (arg4.view.read (Elt F) X_arg4) 1 k) (scaleBytes (arg6.view.read (Elt F) X_arg6) 1 k))⟩ : View.Piece (Elt F) S8x2048 .f32)] := by
  have hk : k.val < 8 := Nat.lt_of_lt_of_le k.isLt k0_t3_abs.2.1
  rw [← chunk_t3 (arg10 := arg10), ← ld_scaleBytes _ 1 k.val hk _ (k0_off16_eq k) (k0_off16_inb k)]
  unfold trip_k0_t3
  dsimp only
  exact congrArg (fun x => [(⟨_, x⟩ : View.Piece (Elt F) S8x2048 .f32)]) (shapeCast_self _ _)

/-- Loop 4's two tiles, as the trip reads them: head 1's chunk. -/
theorem chunk_t4 (X_arg5 : BufTy.Contents (Elt F) arg5.view.ty) (k : Fin k0_t4_loop.trips) :
    pair (trip_k0_t4.sl.v412 (F := F) arg5 arg10 X_arg5 k) (trip_k0_t4.sl.v638 (F := F) arg5 arg10 X_arg5 k)
      = chunk (arg5.view.read (Elt F) X_arg5) 1 k := by
  have hk : k.val < 8 := Nat.lt_of_lt_of_le k.isLt k0_t4_abs.2.1
  have eA : trip_k0_t4.sl.v412 (F := F) arg5 arg10 X_arg5 k = readTile arg10.view (View.readAt (Elt F) arg5.view (tileRect (k0_off19 k 0#32) (k0_off19_inb k 0)) X_arg5) (View.readAt (Elt F) arg5.view (tileRect (k0_off20 k 0#32) (k0_off20_inb k 0)) X_arg5) (View.readAt (Elt F) arg5.view (tileRect (k0_off21 k 0#32) (k0_off21_inb k 0)) X_arg5) [] := rfl
  have eB : trip_k0_t4.sl.v638 (F := F) arg5 arg10 X_arg5 k = readTile arg10.view (View.readAt (Elt F) arg5.view (tileRect (k0_off19 k 128#32) (k0_off19_inb k 1)) X_arg5) (View.readAt (Elt F) arg5.view (tileRect (k0_off20 k 128#32) (k0_off20_inb k 1)) X_arg5) (View.readAt (Elt F) arg5.view (tileRect (k0_off21 k 128#32) (k0_off21_inb k 1)) X_arg5) (stores (View.readAt (Elt F) arg5.view (tileRect (k0_off19 k 0#32) (k0_off19_inb k 0)) X_arg5) (View.readAt (Elt F) arg5.view (tileRect (k0_off20 k 0#32) (k0_off20_inb k 0)) X_arg5) (View.readAt (Elt F) arg5.view (tileRect (k0_off21 k 0#32) (k0_off21_inb k 0)) X_arg5) []) := rfl
  rw [eA, eB]
  exact readChunk_eq arg10.view arg5.view X_arg5 1 k.val hk _ _ _ _ _ _ _ _ _ _ _ _ (k0_off19_eq k 0) (k0_off20_eq k 0) (k0_off21_eq k 0) (k0_off19_eq k 1) (k0_off20_eq k 1) (k0_off21_eq k 1)

/-- Head 1's weighted sum after a chunk, on what the trip reads. -/
theorem trip4_R (v2 : Vec F S128x128 .bf16) (v69 : IVec S32x128 1) (v118 : FVec F S8x1 .f32) (X_arg5 : BufTy.Contents (Elt F) arg5.view.ty) (X_arg7 : BufTy.Contents (Elt F) arg7.view.ty) (X_arg11 : BufTy.Contents (Elt F) arg11.view.ty) (k : Fin k0_t4_loop.trips) (acc : FVec F S32x128 .f32) (f_arg10 : BufTy.Contents (Elt F) arg10.view.ty) :
    (trip_k0_t4 (F := F) 𝒱 c bd i arg1 harg1 arg2 harg2 arg3 harg3 arg4 harg4 arg5 harg5 arg6 harg6 arg7 harg7 arg8 harg8 arg9 harg9 arg10 harg10 arg11 harg11 v2 v69 v118 X_arg5 X_arg7 X_arg11 k).1 acc f_arg10
      = weigh acc (chunk (arg5.view.read (Elt F) X_arg5) 1 k) (columns (arg11.view.read (Elt F) X_arg11) k) (scaleBytes (arg7.view.read (Elt F) X_arg7) 1 k) := by
  have hk : k.val < 8 := Nat.lt_of_lt_of_le k.isLt k0_t4_abs.2.1
  rw [← chunk_t4 (arg10 := arg10), ← ld_columns _ k.val hk _ (k0_off22_eq k) (k0_off22_inb k), ← ld_scaleBytes _ 1 k.val hk _ (k0_off23_eq k) (k0_off23_inb k)]
  unfold trip_k0_t4
  dsimp only
  rfl

/-- Loop 5's two tiles, as the trip reads them: head 2's chunk. -/
theorem chunk_t5 (X_arg4 : BufTy.Contents (Elt F) arg4.view.ty) (k : Fin k0_t5_loop.trips) :
    pair (trip_k0_t5.sl.v412 (F := F) arg4 arg10 X_arg4 k) (trip_k0_t5.sl.v638 (F := F) arg4 arg10 X_arg4 k)
      = chunk (arg4.view.read (Elt F) X_arg4) 2 k := by
  have hk : k.val < 8 := Nat.lt_of_lt_of_le k.isLt k0_t5_abs.2.1
  have eA : trip_k0_t5.sl.v412 (F := F) arg4 arg10 X_arg4 k = readTile arg10.view (View.readAt (Elt F) arg4.view (tileRect (k0_off24 k 0#32) (k0_off24_inb k 0)) X_arg4) (View.readAt (Elt F) arg4.view (tileRect (k0_off25 k 0#32) (k0_off25_inb k 0)) X_arg4) (View.readAt (Elt F) arg4.view (tileRect (k0_off26 k 0#32) (k0_off26_inb k 0)) X_arg4) [] := rfl
  have eB : trip_k0_t5.sl.v638 (F := F) arg4 arg10 X_arg4 k = readTile arg10.view (View.readAt (Elt F) arg4.view (tileRect (k0_off24 k 128#32) (k0_off24_inb k 1)) X_arg4) (View.readAt (Elt F) arg4.view (tileRect (k0_off25 k 128#32) (k0_off25_inb k 1)) X_arg4) (View.readAt (Elt F) arg4.view (tileRect (k0_off26 k 128#32) (k0_off26_inb k 1)) X_arg4) (stores (View.readAt (Elt F) arg4.view (tileRect (k0_off24 k 0#32) (k0_off24_inb k 0)) X_arg4) (View.readAt (Elt F) arg4.view (tileRect (k0_off25 k 0#32) (k0_off25_inb k 0)) X_arg4) (View.readAt (Elt F) arg4.view (tileRect (k0_off26 k 0#32) (k0_off26_inb k 0)) X_arg4) []) := rfl
  rw [eA, eB]
  exact readChunk_eq arg10.view arg4.view X_arg4 2 k.val hk _ _ _ _ _ _ _ _ _ _ _ _ (k0_off24_eq k 0) (k0_off25_eq k 0) (k0_off26_eq k 0) (k0_off24_eq k 1) (k0_off25_eq k 1) (k0_off26_eq k 1)

theorem trip5_R (v1 : Elt F .i32) (v154 : FVec F S32x128 .bf16) (X_arg4 : BufTy.Contents (Elt F) arg4.view.ty) (X_arg6 : BufTy.Contents (Elt F) arg6.view.ty) (k : Fin k0_t5_loop.trips) (acc : FVec F S8x1 .f32) (f_arg9 : BufTy.Contents (Elt F) arg9.view.ty) (f_arg10 : BufTy.Contents (Elt F) arg10.view.ty) (f_arg11 : BufTy.Contents (Elt F) arg11.view.ty) :
    (trip_k0_t5 (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 k).1 acc f_arg9 f_arg10 f_arg11
      = rowMax acc (masked v1 k (scores v154 (chunk (arg4.view.read (Elt F) X_arg4) 2 k) (scaleBytes (arg6.view.read (Elt F) X_arg6) 2 k))) := by
  have hk : k.val < 8 := Nat.lt_of_lt_of_le k.isLt k0_t5_abs.2.1
  rw [← chunk_t5 (arg10 := arg10), ← ld_scaleBytes _ 2 k.val hk _ (k0_off27_eq k) (k0_off27_inb k)]
  unfold trip_k0_t5
  dsimp only
  rfl

theorem trip5_L9 (v1 : Elt F .i32) (v154 : FVec F S32x128 .bf16) (X_arg4 : BufTy.Contents (Elt F) arg4.view.ty) (X_arg6 : BufTy.Contents (Elt F) arg6.view.ty) (k : Fin k0_t5_loop.trips) (acc : FVec F S8x1 .f32) (f_arg9 : BufTy.Contents (Elt F) arg9.view.ty) (f_arg10 : BufTy.Contents (Elt F) arg10.view.ty) (f_arg11 : BufTy.Contents (Elt F) arg11.view.ty) :
    (trip_k0_t5 (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 k).2.1 acc f_arg9 f_arg10 f_arg11
      = [(⟨Rect.unit (k0_off28 k) S1x8x256.size (k0_off28_inb k), zeroed v1 k (scores v154 (chunk (arg4.view.read (Elt F) X_arg4) 2 k) (scaleBytes (arg6.view.read (Elt F) X_arg6) 2 k))⟩ : View.Piece (Elt F) S1x24x2048 .f32)] := by
  have hk : k.val < 8 := Nat.lt_of_lt_of_le k.isLt k0_t5_abs.2.1
  rw [← chunk_t5 (arg10 := arg10), ← ld_scaleBytes _ 2 k.val hk _ (k0_off27_eq k) (k0_off27_inb k)]
  unfold trip_k0_t5
  dsimp only
  rfl

theorem trip5_L11 (v1 : Elt F .i32) (v154 : FVec F S32x128 .bf16) (X_arg4 : BufTy.Contents (Elt F) arg4.view.ty) (X_arg6 : BufTy.Contents (Elt F) arg6.view.ty) (k : Fin k0_t5_loop.trips) (acc : FVec F S8x1 .f32) (f_arg9 : BufTy.Contents (Elt F) arg9.view.ty) (f_arg10 : BufTy.Contents (Elt F) arg10.view.ty) (f_arg11 : BufTy.Contents (Elt F) arg11.view.ty) :
    (trip_k0_t5 (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 k).2.2.2.1 acc f_arg9 f_arg10 f_arg11
      = [(⟨Rect.unit (k0_off29 k) S8x256.size (k0_off29_inb k), masked v1 k (scores v154 (chunk (arg4.view.read (Elt F) X_arg4) 2 k) (scaleBytes (arg6.view.read (Elt F) X_arg6) 2 k))⟩ : View.Piece (Elt F) S8x2048 .f32)] := by
  have hk : k.val < 8 := Nat.lt_of_lt_of_le k.isLt k0_t5_abs.2.1
  rw [← chunk_t5 (arg10 := arg10), ← ld_scaleBytes _ 2 k.val hk _ (k0_off27_eq k) (k0_off27_inb k)]
  unfold trip_k0_t5
  dsimp only
  exact congrArg (fun x => [(⟨_, x⟩ : View.Piece (Elt F) S8x2048 .f32)]) (shapeCast_self _ _)

/-- Loop 6's two tiles, as the trip reads them: head 2's chunk. -/
theorem chunk_t6 (X_arg5 : BufTy.Contents (Elt F) arg5.view.ty) (k : Fin k0_t6_loop.trips) :
    pair (trip_k0_t6.sl.v412 (F := F) arg5 arg10 X_arg5 k) (trip_k0_t6.sl.v638 (F := F) arg5 arg10 X_arg5 k)
      = chunk (arg5.view.read (Elt F) X_arg5) 2 k := by
  have hk : k.val < 8 := Nat.lt_of_lt_of_le k.isLt k0_t6_abs.2.1
  have eA : trip_k0_t6.sl.v412 (F := F) arg5 arg10 X_arg5 k = readTile arg10.view (View.readAt (Elt F) arg5.view (tileRect (k0_off30 k 0#32) (k0_off30_inb k 0)) X_arg5) (View.readAt (Elt F) arg5.view (tileRect (k0_off31 k 0#32) (k0_off31_inb k 0)) X_arg5) (View.readAt (Elt F) arg5.view (tileRect (k0_off32 k 0#32) (k0_off32_inb k 0)) X_arg5) [] := rfl
  have eB : trip_k0_t6.sl.v638 (F := F) arg5 arg10 X_arg5 k = readTile arg10.view (View.readAt (Elt F) arg5.view (tileRect (k0_off30 k 128#32) (k0_off30_inb k 1)) X_arg5) (View.readAt (Elt F) arg5.view (tileRect (k0_off31 k 128#32) (k0_off31_inb k 1)) X_arg5) (View.readAt (Elt F) arg5.view (tileRect (k0_off32 k 128#32) (k0_off32_inb k 1)) X_arg5) (stores (View.readAt (Elt F) arg5.view (tileRect (k0_off30 k 0#32) (k0_off30_inb k 0)) X_arg5) (View.readAt (Elt F) arg5.view (tileRect (k0_off31 k 0#32) (k0_off31_inb k 0)) X_arg5) (View.readAt (Elt F) arg5.view (tileRect (k0_off32 k 0#32) (k0_off32_inb k 0)) X_arg5) []) := rfl
  rw [eA, eB]
  exact readChunk_eq arg10.view arg5.view X_arg5 2 k.val hk _ _ _ _ _ _ _ _ _ _ _ _ (k0_off30_eq k 0) (k0_off31_eq k 0) (k0_off32_eq k 0) (k0_off30_eq k 1) (k0_off31_eq k 1) (k0_off32_eq k 1)

/-- Head 2's weighted sum after a chunk, on what the trip reads. -/
theorem trip6_R (X_arg5 : BufTy.Contents (Elt F) arg5.view.ty) (X_arg7 : BufTy.Contents (Elt F) arg7.view.ty) (X_arg11 : BufTy.Contents (Elt F) arg11.view.ty) (k : Fin k0_t6_loop.trips) (acc : FVec F S32x128 .f32) (f_arg10 : BufTy.Contents (Elt F) arg10.view.ty) :
    (trip_k0_t6 (F := F) 𝒱 c bd i arg1 harg1 arg2 harg2 arg3 harg3 arg4 harg4 arg5 harg5 arg6 harg6 arg7 harg7 arg8 harg8 arg9 harg9 arg10 harg10 arg11 harg11 X_arg5 X_arg7 X_arg11 k).1 acc f_arg10
      = weigh acc (chunk (arg5.view.read (Elt F) X_arg5) 2 k) (columns (arg11.view.read (Elt F) X_arg11) k) (scaleBytes (arg7.view.read (Elt F) X_arg7) 2 k) := by
  have hk : k.val < 8 := Nat.lt_of_lt_of_le k.isLt k0_t6_abs.2.1
  rw [← chunk_t6 (arg10 := arg10), ← ld_columns _ k.val hk _ (k0_off33_eq k) (k0_off33_inb k), ← ld_scaleBytes _ 2 k.val hk _ (k0_off34_eq k) (k0_off34_inb k)]
  unfold trip_k0_t6
  dsimp only
  rfl

end Cert.KernelIdeal.Clean

end
-- ==== Proof.KernelIdeal.States.lean ====
module

public import proofs.«01_k».proof.Proof.KernelIdeal.Trips
public import Idealize.ShloMosaic.Lib.WritesUnit

@[expose] public section

set_option maxRecDepth 16384

noncomputable section

/-! What each loop leaves: its carried value as a fold over the chunks, and the contents of the buffers it stores chunk by
chunk. -/

namespace Cert.KernelIdeal.Clean

open Cert.KernelIdeal Cert.KernelIdeal.Gen
open Idealize.ShloMosaic Idealize.ShloMosaic.TcCoe Idealize.ShloMosaic.Tactic

variable {F : FTy → Type} [FloatOps F] [Named F]

/-- A value carried through `n` chunks. -/
def fold {α : Type} (a : α) (f : ℕ → α → α) : ℕ → α
  | 0 => a
  | n + 1 => f n (fold a f n)

/-- Eight chunks of 256 columns side by side. -/
def joined (w : ℕ → FVec F S8x256 .f32) : FVec F S8x2048 .f32 := fun y =>
  w ((y 1).val / 256) (ix2 (y 0) ⟨(y 1).val % 256, Nat.mod_lt _ (by decide)⟩)

section Read

variable {sig : RefSig} {κ : Kind} {sp : Space}

theorem read_joined (v : View sig κ sp S8x2048 .f32) (P : ℕ → List (View.Piece (Elt F) S8x2048 .f32)) (w : ℕ → FVec F S8x256 .f32)
    (hs : ∀ k, k < 8 → ∃ (off : Fin 2 → ℕ) (inb : ∀ a, off a + S8x256.size a ≤ S8x2048.size a), off = ![0, 256 * k] ∧
      P (k + 1) = (⟨Rect.unit off S8x256.size inb, w k⟩ : View.Piece (Elt F) S8x2048 .f32) :: P k)
    (G : BufTy.Contents (Elt F) v.ty) (n : ℕ) (hn : n ≤ 8) (r : Fin 8) (q : Fin 2048) (hq : q.val < 256 * n) :
    v.read (Elt F) (v.writes (Elt F) G (P n)) (ix2 r q) = joined w (ix2 r q) := by
  induction n with
  | zero => omega
  | succ n ih =>
    obtain ⟨off, inb, ho, he⟩ := hs n (by omega)
    rw [he]
    by_cases c : q.val < 256 * n
    · refine (View.read_writes_cons_unit_of_not_mem v G inb (w n) (P n) (ix2 r q) ho (1 : Fin 2) (Or.inl ?_)).trans (ih (by omega) c)
      exact c
    · refine (View.read_writes_cons_unit_of_mem v G inb (w n) (P n) (ix2 r q) (ix2 r ⟨q.val % 256, Nat.mod_lt _ (by decide)⟩) ho ?_).trans ?_
      · intro a
        fin_cases a
        · show r.val = 0 + r.val
          omega
        · show q.val = 256 * n + q.val % 256
          omega
      · have e : q.val / 256 = n := by omega
        show _ = w (q.val / 256) (ix2 r ⟨q.val % 256, _⟩)
        rw [e]

theorem read_joined_all (v : View sig κ sp S8x2048 .f32) (P : ℕ → List (View.Piece (Elt F) S8x2048 .f32)) (w : ℕ → FVec F S8x256 .f32)
    (hs : ∀ k, k < 8 → ∃ (off : Fin 2 → ℕ) (inb : ∀ a, off a + S8x256.size a ≤ S8x2048.size a), off = ![0, 256 * k] ∧
      P (k + 1) = (⟨Rect.unit off S8x256.size inb, w k⟩ : View.Piece (Elt F) S8x2048 .f32) :: P k)
    (G : BufTy.Contents (Elt F) v.ty) : v.read (Elt F) (v.writes (Elt F) G (P 8)) = joined w := by
  funext y
  idx_vars y
  exact read_joined v P w hs G 8 (le_refl _) y0 y1 y1.isLt

theorem read_rows (v : View sig κ sp S1x24x2048 .f32) (P : ℕ → List (View.Piece (Elt F) S1x24x2048 .f32)) (w : ℕ → FVec F S1x8x256 .f32)
    (h0 : P 0 = []) (h : ℕ)
    (hs : ∀ k, k < 8 → ∃ (off : Fin 3 → ℕ) (inb : ∀ a, off a + S1x8x256.size a ≤ S1x24x2048.size a), off = ![0, 8 * h, 256 * k] ∧
      P (k + 1) = (⟨Rect.unit off S1x8x256.size inb, w k⟩ : View.Piece (Elt F) S1x24x2048 .f32) :: P k)
    (G : BufTy.Contents (Elt F) v.ty) (n : ℕ) (hn : n ≤ 8) (r : Fin 24) (q : Fin 2048) :
    v.read (Elt F) (v.writes (Elt F) G (P n)) (ix3 0 r q)
      = if r.val / 8 = h ∧ q.val < 256 * n then
          w (q.val / 256) (ix3 0 ⟨r.val % 8, Nat.mod_lt _ (by decide)⟩ ⟨q.val % 256, Nat.mod_lt _ (by decide)⟩)
        else v.read (Elt F) G (ix3 0 r q) := by
  induction n with
  | zero => rw [if_neg (by omega), h0]; rfl
  | succ n ih =>
    obtain ⟨off, inb, ho, he⟩ := hs n (by omega)
    rw [he]
    by_cases c : r.val / 8 = h ∧ 256 * n ≤ q.val ∧ q.val < 256 * (n + 1)
    · rw [if_pos ⟨c.1, c.2.2⟩]
      refine (View.read_writes_cons_unit_of_mem v G inb (w n) (P n) (ix3 0 r q)
        (ix3 0 ⟨r.val % 8, Nat.mod_lt _ (by decide)⟩ ⟨q.val % 256, Nat.mod_lt _ (by decide)⟩) ho ?_).trans ?_
      · intro a
        fin_cases a
        · rfl
        · show r.val = 8 * h + r.val % 8
          omega
        · show q.val = 256 * n + q.val % 256
          omega
      · have e : q.val / 256 = n := by omega
        rw [e]
    · have hnm : v.read (Elt F) (v.writes (Elt F) G ((⟨Rect.unit off S1x8x256.size inb, w n⟩ : View.Piece (Elt F) S1x24x2048 .f32) :: P n)) (ix3 0 r q)
          = v.read (Elt F) (v.writes (Elt F) G (P n)) (ix3 0 r q) := by
        by_cases c1 : r.val / 8 = h
        · refine View.read_writes_cons_unit_of_not_mem v G inb (w n) (P n) (ix3 0 r q) ho (2 : Fin 3) ?_
          show q.val < 256 * n ∨ 256 * n + 256 ≤ q.val
          omega
        · refine View.read_writes_cons_unit_of_not_mem v G inb (w n) (P n) (ix3 0 r q) ho (1 : Fin 3) ?_
          show r.val < 8 * h ∨ 8 * h + 8 ≤ r.val
          omega
      rw [hnm, ih (by omega)]
      refine if_congr ?_ rfl rfl
      omega

end Read

variable (𝒱 : Variants) (c : Dev nD) (bd : Option 𝒱.V) (i : grid0.Coords) (arg1 : Memref sig .tc .smem S72 .i32) (harg1 : arg1.IsWhole) (arg2 : Memref sig .tc .vmem S1x24x128 .bf16) (harg2 : arg2.IsWhole) (arg3 : Memref sig .tc .vmem S128x128 .bf16) (harg3 : arg3.IsWhole) (arg4 : Memref sig .tc .vmem S1x3x96x2048 .i8) (harg4 : arg4.IsWhole) (arg5 : Memref sig .tc .vmem S1x3x96x2048 .i8) (harg5 : arg5.IsWhole) (arg6 : Memref sig .tc .vmem S1x3x4x2048 .i8) (harg6 : arg6.IsWhole) (arg7 : Memref sig .tc .vmem S1x3x4x2048 .i8) (harg7 : arg7.IsWhole) (arg8 : Memref sig .tc .vmem S1x24x128 .bf16) (harg8 : arg8.IsWhole) (arg9 : Memref sig .tc .vmem S1x24x2048 .f32) (harg9 : arg9.IsWhole) (arg10 : Memref sig .tc .vmem S24x128 .i32) (harg10 : arg10.IsWhole) (arg11 : Memref sig .tc .vmem S8x2048 .f32) (harg11 : arg11.IsWhole)

/-- Head 0's running row maxima. -/
theorem carry_t1 (v1 : Elt F .i32) (v2 : Vec F S128x128 .bf16) (v4 : IVec S32x128 32) (v22 : IVec S32x128 32) (v41 : IVec S32x128 1) (v43 : IVec S32x128 32) (v70 : Vec F S1x8x128 .bf16) (X_arg4 : BufTy.Contents (Elt F) arg4.view.ty) (X_arg6 : BufTy.Contents (Elt F) arg6.view.ty) (G_arg9 : BufTy.Contents (Elt F) arg9.view.ty) (G_arg10 : BufTy.Contents (Elt F) arg10.view.ty) (G_arg11 : BufTy.Contents (Elt F) arg11.view.ty) (init : FVec F S8x1 .f32) (k : ℕ) (hk : k ≤ 8) :
    (st_k0_t1 (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 G_arg9 G_arg10 G_arg11 init k).1 = fold init (fun k a => rowMax a ((fun k => masked v1 k (scores (k0_pay401 v2 v4 v22 v41 v43 v70) (chunk (arg4.view.read (Elt F) X_arg4) 0 k) (scaleBytes (arg6.view.read (Elt F) X_arg6) 0 k))) k)) k := by
  induction k with
  | zero => rfl
  | succ k ih =>
    rw [st_k0_t1_succ (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 G_arg9 G_arg10 G_arg11 init ⟨k, hk⟩]
    refine (trip1_R 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 ⟨k, hk⟩ _ _ _ _).trans ?_
    rw [ih (by omega)]
    rfl

/-- The masked scores that head 0's loop leaves. -/
theorem kept_t1 (v1 : Elt F .i32) (v2 : Vec F S128x128 .bf16) (v4 : IVec S32x128 32) (v22 : IVec S32x128 32) (v41 : IVec S32x128 1) (v43 : IVec S32x128 32) (v70 : Vec F S1x8x128 .bf16) (X_arg4 : BufTy.Contents (Elt F) arg4.view.ty) (X_arg6 : BufTy.Contents (Elt F) arg6.view.ty) (G_arg9 : BufTy.Contents (Elt F) arg9.view.ty) (G_arg10 : BufTy.Contents (Elt F) arg10.view.ty) (G_arg11 : BufTy.Contents (Elt F) arg11.view.ty) (init : FVec F S8x1 .f32) (G : BufTy.Contents (Elt F) arg11.view.ty) :
    arg11.view.read (Elt F) (arg11.view.writes (Elt F) G (st_k0_t1 (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 G_arg9 G_arg10 G_arg11 init 8).2.2.2) = joined (fun k => masked v1 k (scores (k0_pay401 v2 v4 v22 v41 v43 v70) (chunk (arg4.view.read (Elt F) X_arg4) 0 k) (scaleBytes (arg6.view.read (Elt F) X_arg6) 0 k))) := by
  refine read_joined_all arg11.view (fun k => (st_k0_t1 (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 G_arg9 G_arg10 G_arg11 init k).2.2.2) _ (fun k hk => ⟨k0_off7 ⟨k, hk⟩, k0_off7_inb ⟨k, hk⟩, k0_off7_eq ⟨k, hk⟩, ?_⟩) G
  dsimp only
  rw [st_k0_t1_succ (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 G_arg9 G_arg10 G_arg11 init ⟨k, hk⟩]
  exact congrArg (· ++ _) (trip1_L11 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 ⟨k, hk⟩ _ _ _ _)

/-- The scores that head 0's loop stores: its own eight rows, the others as they were. -/
theorem rows_t1 (v1 : Elt F .i32) (v2 : Vec F S128x128 .bf16) (v4 : IVec S32x128 32) (v22 : IVec S32x128 32) (v41 : IVec S32x128 1) (v43 : IVec S32x128 32) (v70 : Vec F S1x8x128 .bf16) (X_arg4 : BufTy.Contents (Elt F) arg4.view.ty) (X_arg6 : BufTy.Contents (Elt F) arg6.view.ty) (G_arg9 : BufTy.Contents (Elt F) arg9.view.ty) (G_arg10 : BufTy.Contents (Elt F) arg10.view.ty) (G_arg11 : BufTy.Contents (Elt F) arg11.view.ty) (init : FVec F S8x1 .f32) (G : BufTy.Contents (Elt F) arg9.view.ty) (r : Fin 24) (q : Fin 2048) :
    arg9.view.read (Elt F) (arg9.view.writes (Elt F) G (st_k0_t1 (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 G_arg9 G_arg10 G_arg11 init 8).2.1) (ix3 0 r q)
      = if r.val / 8 = 0 then (fun k => zeroed v1 k (scores (k0_pay401 v2 v4 v22 v41 v43 v70) (chunk (arg4.view.read (Elt F) X_arg4) 0 k) (scaleBytes (arg6.view.read (Elt F) X_arg6) 0 k))) (q.val / 256) (ix3 0 ⟨r.val % 8, Nat.mod_lt _ (by decide)⟩ ⟨q.val % 256, Nat.mod_lt _ (by decide)⟩)
        else arg9.view.read (Elt F) G (ix3 0 r q) := by
  refine (read_rows arg9.view (fun k => (st_k0_t1 (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 G_arg9 G_arg10 G_arg11 init k).2.1) (fun k => zeroed v1 k (scores (k0_pay401 v2 v4 v22 v41 v43 v70) (chunk (arg4.view.read (Elt F) X_arg4) 0 k) (scaleBytes (arg6.view.read (Elt F) X_arg6) 0 k))) rfl 0 (fun k hk => ⟨k0_off6 ⟨k, hk⟩, k0_off6_inb ⟨k, hk⟩, k0_off6_eq ⟨k, hk⟩, ?_⟩) G 8 (le_refl _) r q).trans (if_congr ?_ rfl rfl)
  · dsimp only
    rw [st_k0_t1_succ (F := F) 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 G_arg9 G_arg10 G_arg11 init ⟨k, hk⟩]
    exact congrArg (· ++ _) (trip1_L9 𝒱 c bd i arg1 harg1 arg2 harg2 arg3 harg3 arg4 harg4 arg5 harg5 arg6 harg6 arg7 harg7 arg8 harg8 arg9 harg9 arg10 harg10 arg11 harg11 v1 v2 v4 v22 v41 v43 v70 X_arg4 X_arg6 ⟨k, hk⟩ _ _ _ _)
  · have := q.isLt
    omega

/-- Head 1's running row maxima. -/
theorem carry_t3 (v1 : Elt F .i32) (v2 : Vec F S128x128 .bf16) (v69 : IVec S32x128 1) (v83 : FVec F S8x2048 .f32) (v109 : Vec F S1x8x128 .bf16) (X_arg4 : BufTy.Contents (Elt F) arg4.view.ty) (X_arg6 : BufTy.Contents (Elt F) arg6.view.ty) (G_arg9 : BufTy.Contents (Elt F) arg9.view.ty) (G_arg10 : BufTy.Contents (Elt F) arg10.view.ty) (G_arg11 : BufTy.Contents (Elt F) arg11.view.ty) (init : FVec F S8x1 .f32) (k : ℕ) (hk : k ≤ 8) :
    (st_k0_t3 (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 G_arg9 G_arg10 G_arg11 init k).1 = fold init (fun k a => rowMax a ((fun k => masked v1 k (scores (k0_pay409 v2 v69 v109) (chunk (arg4.view.read (Elt F) X_arg4) 1 k) (scaleBytes (arg6.view.read (Elt F) X_arg6) 1 k))) k)) k := by
  induction k with
  | zero => rfl
  | succ k ih =>
    rw [st_k0_t3_succ (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 G_arg9 G_arg10 G_arg11 init ⟨k, hk⟩]
    refine (trip3_R 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 ⟨k, hk⟩ _ _ _ _).trans ?_
    rw [ih (by omega)]
    rfl

/-- The masked scores that head 1's loop leaves. -/
theorem kept_t3 (v1 : Elt F .i32) (v2 : Vec F S128x128 .bf16) (v69 : IVec S32x128 1) (v83 : FVec F S8x2048 .f32) (v109 : Vec F S1x8x128 .bf16) (X_arg4 : BufTy.Contents (Elt F) arg4.view.ty) (X_arg6 : BufTy.Contents (Elt F) arg6.view.ty) (G_arg9 : BufTy.Contents (Elt F) arg9.view.ty) (G_arg10 : BufTy.Contents (Elt F) arg10.view.ty) (G_arg11 : BufTy.Contents (Elt F) arg11.view.ty) (init : FVec F S8x1 .f32) (G : BufTy.Contents (Elt F) arg11.view.ty) :
    arg11.view.read (Elt F) (arg11.view.writes (Elt F) G (st_k0_t3 (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 G_arg9 G_arg10 G_arg11 init 8).2.2.2) = joined (fun k => masked v1 k (scores (k0_pay409 v2 v69 v109) (chunk (arg4.view.read (Elt F) X_arg4) 1 k) (scaleBytes (arg6.view.read (Elt F) X_arg6) 1 k))) := by
  refine read_joined_all arg11.view (fun k => (st_k0_t3 (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 G_arg9 G_arg10 G_arg11 init k).2.2.2) _ (fun k hk => ⟨k0_off18 ⟨k, hk⟩, k0_off18_inb ⟨k, hk⟩, k0_off18_eq ⟨k, hk⟩, ?_⟩) G
  dsimp only
  rw [st_k0_t3_succ (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 G_arg9 G_arg10 G_arg11 init ⟨k, hk⟩]
  exact congrArg (· ++ _) (trip3_L11 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 ⟨k, hk⟩ _ _ _ _)

/-- The scores that head 1's loop stores: its own eight rows, the others as they were. -/
theorem rows_t3 (v1 : Elt F .i32) (v2 : Vec F S128x128 .bf16) (v69 : IVec S32x128 1) (v83 : FVec F S8x2048 .f32) (v109 : Vec F S1x8x128 .bf16) (X_arg4 : BufTy.Contents (Elt F) arg4.view.ty) (X_arg6 : BufTy.Contents (Elt F) arg6.view.ty) (G_arg9 : BufTy.Contents (Elt F) arg9.view.ty) (G_arg10 : BufTy.Contents (Elt F) arg10.view.ty) (G_arg11 : BufTy.Contents (Elt F) arg11.view.ty) (init : FVec F S8x1 .f32) (G : BufTy.Contents (Elt F) arg9.view.ty) (r : Fin 24) (q : Fin 2048) :
    arg9.view.read (Elt F) (arg9.view.writes (Elt F) G (st_k0_t3 (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 G_arg9 G_arg10 G_arg11 init 8).2.1) (ix3 0 r q)
      = if r.val / 8 = 1 then (fun k => zeroed v1 k (scores (k0_pay409 v2 v69 v109) (chunk (arg4.view.read (Elt F) X_arg4) 1 k) (scaleBytes (arg6.view.read (Elt F) X_arg6) 1 k))) (q.val / 256) (ix3 0 ⟨r.val % 8, Nat.mod_lt _ (by decide)⟩ ⟨q.val % 256, Nat.mod_lt _ (by decide)⟩)
        else arg9.view.read (Elt F) G (ix3 0 r q) := by
  refine (read_rows arg9.view (fun k => (st_k0_t3 (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 G_arg9 G_arg10 G_arg11 init k).2.1) (fun k => zeroed v1 k (scores (k0_pay409 v2 v69 v109) (chunk (arg4.view.read (Elt F) X_arg4) 1 k) (scaleBytes (arg6.view.read (Elt F) X_arg6) 1 k))) rfl 1 (fun k hk => ⟨k0_off17 ⟨k, hk⟩, k0_off17_inb ⟨k, hk⟩, k0_off17_eq ⟨k, hk⟩, ?_⟩) G 8 (le_refl _) r q).trans (if_congr ?_ rfl rfl)
  · dsimp only
    rw [st_k0_t3_succ (F := F) 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 G_arg9 G_arg10 G_arg11 init ⟨k, hk⟩]
    exact congrArg (· ++ _) (trip3_L9 𝒱 c bd i arg1 harg1 arg2 harg2 arg3 harg3 arg4 harg4 arg5 harg5 arg6 harg6 arg7 harg7 arg8 harg8 arg9 harg9 arg10 harg10 arg11 harg11 v1 v2 v69 v83 v109 X_arg4 X_arg6 ⟨k, hk⟩ _ _ _ _)
  · have := q.isLt
    omega

/-- Head 2's running row maxima. -/
theorem carry_t5 (v1 : Elt F .i32) (v154 : FVec F S32x128 .bf16) (X_arg4 : BufTy.Contents (Elt F) arg4.view.ty) (X_arg6 : BufTy.Contents (Elt F) arg6.view.ty) (G_arg9 : BufTy.Contents (Elt F) arg9.view.ty) (G_arg10 : BufTy.Contents (Elt F) arg10.view.ty) (G_arg11 : BufTy.Contents (Elt F) arg11.view.ty) (init : FVec F S8x1 .f32) (k : ℕ) (hk : k ≤ 8) :
    (st_k0_t5 (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 G_arg9 G_arg10 G_arg11 init k).1 = fold init (fun k a => rowMax a ((fun k => masked v1 k (scores v154 (chunk (arg4.view.read (Elt F) X_arg4) 2 k) (scaleBytes (arg6.view.read (Elt F) X_arg6) 2 k))) k)) k := by
  induction k with
  | zero => rfl
  | succ k ih =>
    rw [st_k0_t5_succ (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 G_arg9 G_arg10 G_arg11 init ⟨k, hk⟩]
    refine (trip5_R 𝒱 c bd i arg1 harg1 arg2 harg2 arg3 harg3 arg4 harg4 arg5 harg5 arg6 harg6 arg7 harg7 arg8 harg8 arg9 harg9 arg10 harg10 arg11 harg11 v1 v154 X_arg4 X_arg6 ⟨k, hk⟩ _ _ _ _).trans ?_
    rw [ih (by omega)]
    rfl

/-- The masked scores that head 2's loop leaves. -/
theorem kept_t5 (v1 : Elt F .i32) (v154 : FVec F S32x128 .bf16) (X_arg4 : BufTy.Contents (Elt F) arg4.view.ty) (X_arg6 : BufTy.Contents (Elt F) arg6.view.ty) (G_arg9 : BufTy.Contents (Elt F) arg9.view.ty) (G_arg10 : BufTy.Contents (Elt F) arg10.view.ty) (G_arg11 : BufTy.Contents (Elt F) arg11.view.ty) (init : FVec F S8x1 .f32) (G : BufTy.Contents (Elt F) arg11.view.ty) :
    arg11.view.read (Elt F) (arg11.view.writes (Elt F) G (st_k0_t5 (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 G_arg9 G_arg10 G_arg11 init 8).2.2.2) = joined (fun k => masked v1 k (scores v154 (chunk (arg4.view.read (Elt F) X_arg4) 2 k) (scaleBytes (arg6.view.read (Elt F) X_arg6) 2 k))) := by
  refine read_joined_all arg11.view (fun k => (st_k0_t5 (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 G_arg9 G_arg10 G_arg11 init k).2.2.2) _ (fun k hk => ⟨k0_off29 ⟨k, hk⟩, k0_off29_inb ⟨k, hk⟩, k0_off29_eq ⟨k, hk⟩, ?_⟩) G
  dsimp only
  rw [st_k0_t5_succ (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 G_arg9 G_arg10 G_arg11 init ⟨k, hk⟩]
  exact congrArg (· ++ _) (trip5_L11 𝒱 c bd i arg1 harg1 arg2 harg2 arg3 harg3 arg4 harg4 arg5 harg5 arg6 harg6 arg7 harg7 arg8 harg8 arg9 harg9 arg10 harg10 arg11 harg11 v1 v154 X_arg4 X_arg6 ⟨k, hk⟩ _ _ _ _)

/-- The scores that head 2's loop stores: its own eight rows, the others as they were. -/
theorem rows_t5 (v1 : Elt F .i32) (v154 : FVec F S32x128 .bf16) (X_arg4 : BufTy.Contents (Elt F) arg4.view.ty) (X_arg6 : BufTy.Contents (Elt F) arg6.view.ty) (G_arg9 : BufTy.Contents (Elt F) arg9.view.ty) (G_arg10 : BufTy.Contents (Elt F) arg10.view.ty) (G_arg11 : BufTy.Contents (Elt F) arg11.view.ty) (init : FVec F S8x1 .f32) (G : BufTy.Contents (Elt F) arg9.view.ty) (r : Fin 24) (q : Fin 2048) :
    arg9.view.read (Elt F) (arg9.view.writes (Elt F) G (st_k0_t5 (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 G_arg9 G_arg10 G_arg11 init 8).2.1) (ix3 0 r q)
      = if r.val / 8 = 2 then (fun k => zeroed v1 k (scores v154 (chunk (arg4.view.read (Elt F) X_arg4) 2 k) (scaleBytes (arg6.view.read (Elt F) X_arg6) 2 k))) (q.val / 256) (ix3 0 ⟨r.val % 8, Nat.mod_lt _ (by decide)⟩ ⟨q.val % 256, Nat.mod_lt _ (by decide)⟩)
        else arg9.view.read (Elt F) G (ix3 0 r q) := by
  refine (read_rows arg9.view (fun k => (st_k0_t5 (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 G_arg9 G_arg10 G_arg11 init k).2.1) (fun k => zeroed v1 k (scores v154 (chunk (arg4.view.read (Elt F) X_arg4) 2 k) (scaleBytes (arg6.view.read (Elt F) X_arg6) 2 k))) rfl 2 (fun k hk => ⟨k0_off28 ⟨k, hk⟩, k0_off28_inb ⟨k, hk⟩, k0_off28_eq ⟨k, hk⟩, ?_⟩) G 8 (le_refl _) r q).trans (if_congr ?_ rfl rfl)
  · dsimp only
    rw [st_k0_t5_succ (F := F) 𝒱 c bd i arg1 harg1 arg2 harg2 arg3 harg3 arg4 harg4 arg5 harg5 arg6 harg6 arg7 harg7 arg8 harg8 arg9 harg9 arg10 harg10 arg11 harg11 v1 v154 0#32 X_arg4 X_arg6 G_arg9 G_arg10 G_arg11 init ⟨k, hk⟩]
    exact congrArg (· ++ _) (trip5_L9 𝒱 c bd i arg1 harg1 arg2 harg2 arg3 harg3 arg4 harg4 arg5 harg5 arg6 harg6 arg7 harg7 arg8 harg8 arg9 harg9 arg10 harg10 arg11 harg11 v1 v154 X_arg4 X_arg6 ⟨k, hk⟩ _ _ _ _)
  · have := q.isLt
    omega

/-- Head 0's weighted sums. -/
theorem carry_t2 (v1 : Elt F .i32) (v2 : Vec F S128x128 .bf16) (v69 : IVec S32x128 1) (v83 : FVec F S8x2048 .f32) (X_arg5 : BufTy.Contents (Elt F) arg5.view.ty) (X_arg7 : BufTy.Contents (Elt F) arg7.view.ty) (X_arg11 : BufTy.Contents (Elt F) arg11.view.ty) (G_arg10 : BufTy.Contents (Elt F) arg10.view.ty) (init : FVec F S32x128 .f32) (k : ℕ) (hk : k ≤ 8) :
    (st_k0_t2 (F := F) 𝒱 c bd i arg1 harg1 arg2 harg2 arg3 harg3 arg4 harg4 arg5 harg5 arg6 harg6 arg7 harg7 arg8 harg8 arg9 harg9 arg10 harg10 arg11 harg11 v1 v2 v69 v83 X_arg5 X_arg7 X_arg11 G_arg10 init k).1 = fold init (fun k a => weigh a (chunk (arg5.view.read (Elt F) X_arg5) 0 k) (columns (arg11.view.read (Elt F) X_arg11) k) (scaleBytes (arg7.view.read (Elt F) X_arg7) 0 k)) k := by
  induction k with
  | zero => rfl
  | succ k ih =>
    rw [st_k0_t2_succ (F := F) 𝒱 c bd i arg1 harg1 arg2 harg2 arg3 harg3 arg4 harg4 arg5 harg5 arg6 harg6 arg7 harg7 arg8 harg8 arg9 harg9 arg10 harg10 arg11 harg11 v1 v2 v69 v83 X_arg5 X_arg7 X_arg11 G_arg10 init ⟨k, hk⟩]
    refine (trip2_R 𝒱 c bd i arg1 harg1 arg2 harg2 arg3 harg3 arg4 harg4 arg5 harg5 arg6 harg6 arg7 harg7 arg8 harg8 arg9 harg9 arg10 harg10 arg11 harg11 v1 v2 v69 v83 X_arg5 X_arg7 X_arg11 ⟨k, hk⟩ _ _).trans ?_
    rw [ih (by omega)]
    rfl

/-- Head 1's weighted sums. -/
theorem carry_t4 (v2 : Vec F S128x128 .bf16) (v69 : IVec S32x128 1) (v118 : FVec F S8x1 .f32) (X_arg5 : BufTy.Contents (Elt F) arg5.view.ty) (X_arg7 : BufTy.Contents (Elt F) arg7.view.ty) (X_arg11 : BufTy.Contents (Elt F) arg11.view.ty) (G_arg10 : BufTy.Contents (Elt F) arg10.view.ty) (init : FVec F S32x128 .f32) (k : ℕ) (hk : k ≤ 8) :
    (st_k0_t4 (F := F) 𝒱 c bd i arg1 harg1 arg2 harg2 arg3 harg3 arg4 harg4 arg5 harg5 arg6 harg6 arg7 harg7 arg8 harg8 arg9 harg9 arg10 harg10 arg11 harg11 v2 v69 v118 X_arg5 X_arg7 X_arg11 G_arg10 init k).1 = fold init (fun k a => weigh a (chunk (arg5.view.read (Elt F) X_arg5) 1 k) (columns (arg11.view.read (Elt F) X_arg11) k) (scaleBytes (arg7.view.read (Elt F) X_arg7) 1 k)) k := by
  induction k with
  | zero => rfl
  | succ k ih =>
    rw [st_k0_t4_succ (F := F) 𝒱 c bd i arg1 harg1 arg2 harg2 arg3 harg3 arg4 harg4 arg5 harg5 arg6 harg6 arg7 harg7 arg8 harg8 arg9 harg9 arg10 harg10 arg11 harg11 v2 v69 v118 X_arg5 X_arg7 X_arg11 G_arg10 init ⟨k, hk⟩]
    refine (trip4_R 𝒱 c bd i arg1 harg1 arg2 harg2 arg3 harg3 arg4 harg4 arg5 harg5 arg6 harg6 arg7 harg7 arg8 harg8 arg9 harg9 arg10 harg10 arg11 harg11 v2 v69 v118 X_arg5 X_arg7 X_arg11 ⟨k, hk⟩ _ _).trans ?_
    rw [ih (by omega)]
    rfl

/-- Head 2's weighted sums. -/
theorem carry_t6 (X_arg5 : BufTy.Contents (Elt F) arg5.view.ty) (X_arg7 : BufTy.Contents (Elt F) arg7.view.ty) (X_arg11 : BufTy.Contents (Elt F) arg11.view.ty) (G_arg10 : BufTy.Contents (Elt F) arg10.view.ty) (init : FVec F S32x128 .f32) (k : ℕ) (hk : k ≤ 8) :
    (st_k0_t6 (F := F) 𝒱 c bd i arg1 harg1 arg2 harg2 arg3 harg3 arg4 harg4 arg5 harg5 arg6 harg6 arg7 harg7 arg8 harg8 arg9 harg9 arg10 harg10 arg11 harg11 X_arg5 X_arg7 X_arg11 G_arg10 init k).1 = fold init (fun k a => weigh a (chunk (arg5.view.read (Elt F) X_arg5) 2 k) (columns (arg11.view.read (Elt F) X_arg11) k) (scaleBytes (arg7.view.read (Elt F) X_arg7) 2 k)) k := by
  induction k with
  | zero => rfl
  | succ k ih =>
    rw [st_k0_t6_succ (F := F) 𝒱 c bd i arg1 harg1 arg2 harg2 arg3 harg3 arg4 harg4 arg5 harg5 arg6 harg6 arg7 harg7 arg8 harg8 arg9 harg9 arg10 harg10 arg11 harg11 X_arg5 X_arg7 X_arg11 G_arg10 init ⟨k, hk⟩]
    refine (trip6_R 𝒱 c bd i arg1 harg1 arg2 harg2 arg3 harg3 arg4 harg4 arg5 harg5 arg6 harg6 arg7 harg7 arg8 harg8 arg9 harg9 arg10 harg10 arg11 harg11 X_arg5 X_arg7 X_arg11 ⟨k, hk⟩ _ _).trans ?_
    rw [ih (by omega)]
    rfl

end Cert.KernelIdeal.Clean

end
-- ==== Proof.KernelIdeal.Out.lean ====
module

public import proofs.«01_k».proof.Proof.KernelIdeal.States

@[expose] public section

set_option maxRecDepth 16384

noncomputable section

/-! The two blocks that the body leaves at one grid point, as functions of the blocks it reads, and that its stores hold
them. -/

namespace Cert.KernelIdeal.Clean

open Cert.KernelIdeal Cert.KernelIdeal.Gen
open Idealize.ShloMosaic Idealize.ShloMosaic.TcCoe Idealize.ShloMosaic.Tactic

variable {F : FTy → Type} [FloatOps F] [Named F]

/-- Head `h`'s eight query rows. -/
def rowsOf (x0 : Vec F S1x24x128 .bf16) (h : Fin 3) : Vec F S1x8x128 .bf16 := fun j =>
  x0 (ix3 0 ⟨(8 * h.val + (j 1).val) % 24, Nat.mod_lt _ (by decide)⟩ (j 2))

/-- Which entries of the 32 by 128 block lie on its diagonal blocks. -/
def diag : IVec S32x128 1 := k0_pay400 (iota .tc S32x128 32 [0] iota_S32x128_d0_w32) k0_pay397 k0_pay398 k0_pay399

/-- The query rows, permuted and spread over the diagonal blocks. -/
def query (x1 : Vec F S128x128 .bf16) (x : Vec F S1x8x128 .bf16) : FVec F S32x128 .bf16 := k0_pay409 x1 diag x

section Blocks

variable (n : BitVec 32) (x0 : Vec F S1x24x128 .bf16) (x1 : Vec F S128x128 .bf16) (x2 x3 : Vec F S1x3x96x2048 .i8)
  (x4 x5 : Vec F S1x3x4x2048 .i8) (h : Fin 3)

def headScores (k : ℕ) : FVec F S8x256 .f32 := scores (query x1 (rowsOf x0 h)) (chunk x2 h k) (scaleBytes x4 h k)

def headMasked : FVec F S8x2048 .f32 := joined fun k => masked n k (headScores x0 x1 x2 x4 h k)

def headMax : FVec F S8x1 .f32 := fold k0_pay410 (fun k a => rowMax a (masked n k (headScores x0 x1 x2 x4 h k))) 8

def headWeights : FVec F S8x2048 .f32 := k0_pay412 (headMax n x0 x1 x2 x4 h) (headMasked n x0 x1 x2 x4 h)

def headAcc : FVec F S32x128 .f32 :=
  fold k0_pay413 (fun k a => weigh a (chunk x3 h k) (columns (headWeights n x0 x1 x2 x4 h) k) (scaleBytes x5 h k)) 8

def headOut : FVec F S1x8x128 .bf16 := k0_pay415 x1 diag (headAcc n x0 x1 x2 x3 x4 x5 h)

def out8 : Vec F S1x24x128 .bf16 := fun y =>
  headOut n x0 x1 x2 x3 x4 x5 ⟨(y 1).val / 8 % 3, Nat.mod_lt _ (by decide)⟩ (ix3 0 ⟨(y 1).val % 8, Nat.mod_lt _ (by decide)⟩ (y 2))

def out9 : Vec F S1x24x2048 .f32 := fun y =>
  zeroed n ((y 2).val / 256) (headScores x0 x1 x2 x4 ⟨(y 1).val / 8 % 3, Nat.mod_lt _ (by decide)⟩ ((y 2).val / 256))
    (ix3 0 ⟨(y 1).val % 8, Nat.mod_lt _ (by decide)⟩ ⟨(y 2).val % 256, Nat.mod_lt _ (by decide)⟩)

end Blocks

section Read

variable {sig : RefSig} {κ : Kind} {sp : Space}

/-- A read of the whole weights after a store of the whole. -/
theorem read_whole (v : View sig κ sp S8x2048 .f32) (G : BufTy.Contents (Elt F) v.ty) (inb : ∀ a, (![0, 0] : Fin 2 → ℕ) a + S8x2048.size a ≤ S8x2048.size a)
    (w : FVec F S8x2048 .f32) (L : List (View.Piece (Elt F) S8x2048 .f32)) :
    v.read (Elt F) (v.writes (Elt F) G ((⟨Rect.unit ![0, 0] S8x2048.size inb, w⟩ : View.Piece (Elt F) S8x2048 .f32) :: L)) = w := by
  funext y
  idx_vars y
  refine View.read_writes_cons_unit_of_mem v G inb w L (ix2 y0 y1) (ix2 y0 y1) rfl fun a => ?_
  fin_cases a
  · show y0.val = 0 + y0.val
    omega
  · show y1.val = 0 + y1.val
    omega

/-- Three stores of eight rows each. -/
theorem read_three (v : View sig κ sp S1x24x128 .bf16) (G : BufTy.Contents (Elt F) v.ty) (i0 i1 i2) (w0 w1 w2 : FVec F S1x8x128 .bf16)
    (a : Fin 3 → FVec F S1x8x128 .bf16) (e0 : w0 = a 0) (e1 : w1 = a 1) (e2 : w2 = a 2) :
    v.read (Elt F) (v.writes (Elt F) G [(⟨Rect.unit ![0, 16, 0] S1x8x128.size i2, w2⟩ : View.Piece (Elt F) S1x24x128 .bf16),
      ⟨Rect.unit ![0, 8, 0] S1x8x128.size i1, w1⟩, ⟨Rect.unit ![0, 0, 0] S1x8x128.size i0, w0⟩])
      = fun y => a ⟨(y 1).val / 8 % 3, Nat.mod_lt _ (by decide)⟩ (ix3 0 ⟨(y 1).val % 8, Nat.mod_lt _ (by decide)⟩ (y 2)) := by
  subst e0 e1 e2
  funext y
  idx_vars y
  have hr : y1.val < 24 := y1.isLt
  have key : ∀ (h : Fin 3) (hh : y1.val / 8 = h.val) (o : ℕ) (ho : o = 8 * h.val) (inb : ∀ x, (![0, o, 0] : Fin 3 → ℕ) x + S1x8x128.size x ≤ S1x24x128.size x) (L : List (View.Piece (Elt F) S1x24x128 .bf16)),
      v.read (Elt F) (v.writes (Elt F) G ((⟨Rect.unit ![0, o, 0] S1x8x128.size inb, a h⟩ : View.Piece (Elt F) S1x24x128 .bf16) :: L)) (ix3 y0 y1 y2)
        = a ⟨y1.val / 8 % 3, Nat.mod_lt _ (by decide)⟩ (ix3 0 ⟨y1.val % 8, Nat.mod_lt _ (by decide)⟩ y2) := by
    intro h hh o ho inb L
    refine (View.read_writes_cons_unit_of_mem v G inb (a h) L (ix3 y0 y1 y2) (ix3 0 ⟨y1.val % 8, Nat.mod_lt _ (by decide)⟩ y2) rfl ?_).trans ?_
    · intro x
      fin_cases x
      · show y0.val = 0 + 0
        omega
      · show y1.val = o + y1.val % 8
        omega
      · show y2.val = 0 + y2.val
        omega
    · exact congrFun (congrArg a (Fin.ext (by show h.val = y1.val / 8 % 3; have := h.isLt; omega))) _
  by_cases c2 : 16 ≤ y1.val
  · exact key 2 (by show y1.val / 8 = 2; omega) 16 rfl i2 _
  · refine (View.read_writes_cons_unit_of_not_mem v G i2 (a 2) _ (ix3 y0 y1 y2) rfl (1 : Fin 3) (Or.inl (by show y1.val < 16; omega))).trans ?_
    by_cases c1 : 8 ≤ y1.val
    · exact key 1 (by show y1.val / 8 = 1; omega) 8 rfl i1 _
    · refine (View.read_writes_cons_unit_of_not_mem v G i1 (a 1) _ (ix3 y0 y1 y2) rfl (1 : Fin 3) (Or.inl (by show y1.val < 8; omega))).trans ?_
      exact key 0 (by show y1.val / 8 = 0; omega) 0 rfl i0 _

theorem ld_rowsOf (x0 : Vec F S1x24x128 .bf16) (h : Fin 3) (off : Fin 3 → ℕ) (ho : off = ![0, 8 * h.val, 0])
    (inb : ∀ a, off a + S1x8x128.size a ≤ S1x24x128.size a) : View.ld x0 (Rect.unit off S1x8x128.size inb) = rowsOf x0 h := by
  subst ho
  have := h.isLt
  funext j
  idx_vars j
  pointwise [rowsOf]
  congr 2 <;> apply Fin.ext <;> simp <;> omega

theorem ld_perm (x1 : Vec F S128x128 .bf16) (inb : ∀ a, (![0, 0] : Fin 2 → ℕ) a + S128x128.size a ≤ S128x128.size a) :
    View.ld x1 (Rect.unit ![0, 0] S128x128.size inb) = x1 :=
  View.ld_unit_zero (by funext a; fin_cases a <;> rfl) inb x1

theorem ld_weights (x1 : Vec F S8x2048 .f32) (inb : ∀ a, (![0, 0] : Fin 2 → ℕ) a + S8x2048.size a ≤ S8x2048.size a) :
    View.ld x1 (Rect.unit ![0, 0] S8x2048.size inb) = x1 :=
  View.ld_unit_zero (by funext a; fin_cases a <;> rfl) inb x1

end Read

variable (𝒱 : Variants) (c : Dev nD) (bd : Option 𝒱.V) (i : grid0.Coords) (arg1 : Memref sig .tc .smem S72 .i32) (harg1 : arg1.IsWhole) (arg2 : Memref sig .tc .vmem S1x24x128 .bf16) (harg2 : arg2.IsWhole) (arg3 : Memref sig .tc .vmem S128x128 .bf16) (harg3 : arg3.IsWhole) (arg4 : Memref sig .tc .vmem S1x3x96x2048 .i8) (harg4 : arg4.IsWhole) (arg5 : Memref sig .tc .vmem S1x3x96x2048 .i8) (harg5 : arg5.IsWhole) (arg6 : Memref sig .tc .vmem S1x3x4x2048 .i8) (harg6 : arg6.IsWhole) (arg7 : Memref sig .tc .vmem S1x3x4x2048 .i8) (harg7 : arg7.IsWhole) (arg8 : Memref sig .tc .vmem S1x24x128 .bf16) (harg8 : arg8.IsWhole) (arg9 : Memref sig .tc .vmem S1x24x2048 .f32) (harg9 : arg9.IsWhole) (arg10 : Memref sig .tc .vmem S24x128 .i32) (harg10 : arg10.IsWhole) (arg11 : Memref sig .tc .vmem S8x2048 .f32) (harg11 : arg11.IsWhole)

theorem trips_t1 : Scf.trips k0_t1_loop.lb k0_t1_loop.ub k0_t1_loop.st = 8 := by decide +kernel
theorem trips_t2 : Scf.trips k0_t2_loop.lb k0_t2_loop.ub k0_t2_loop.st = 8 := by decide +kernel

theorem trips_t3 : Scf.trips k0_t3_loop.lb k0_t3_loop.ub k0_t3_loop.st = 8 := by decide +kernel
theorem trips_t4 : Scf.trips k0_t4_loop.lb k0_t4_loop.ub k0_t4_loop.st = 8 := by decide +kernel

theorem trips_t5 : Scf.trips k0_t5_loop.lb k0_t5_loop.ub k0_t5_loop.st = 8 := by decide +kernel
theorem trips_t6 : Scf.trips k0_t6_loop.lb k0_t6_loop.ub k0_t6_loop.st = 8 := by decide +kernel

variable (n : BitVec 32) (x0 : Vec F S1x24x128 .bf16) (x1 : Vec F S128x128 .bf16) (x2 x3 : Vec F S1x3x96x2048 .i8)
  (x4 x5 : Vec F S1x3x4x2048 .i8)

/-- Head 0's weights. -/
theorem weights_t1 (v2 : Vec F S128x128 .bf16) (v4 : IVec S32x128 32) (v22 : IVec S32x128 32) (v41 : IVec S32x128 1) (v43 : IVec S32x128 32) (v70 : Vec F S1x8x128 .bf16) (G_arg9 : BufTy.Contents (Elt F) arg9.view.ty) (G_arg10 : BufTy.Contents (Elt F) arg10.view.ty) (G_arg11 : BufTy.Contents (Elt F) arg11.view.ty) (hq : k0_pay401 v2 v4 v22 v41 v43 v70 = query x1 (rowsOf x0 0)) (v : FVec F S8x2048 .f32) (hv : v = headMasked n x0 x1 x2 x4 0) :
    k0_pay405 (k0_pay404 (st_k0_t1 (F := F) 𝒱 c bd i arg1 harg1 arg2 harg2 arg3 harg3 arg4 harg4 arg5 harg5 arg6 harg6 arg7 harg7 arg8 harg8 arg9 harg9 arg10 harg10 arg11 harg11 n v2 v4 v22 v41 v43 v70 (harg4.unread x2) (harg6.unread x4) G_arg9 G_arg10 G_arg11 k0_pay402 (Scf.trips k0_t1_loop.lb k0_t1_loop.ub k0_t1_loop.st)).1 v) = headWeights n x0 x1 x2 x4 0 := by
  subst hv
  rw [trips_t1, carry_t1 𝒱 c bd i arg1 harg1 arg2 harg2 arg3 harg3 arg4 harg4 arg5 harg5 arg6 harg6 arg7 harg7 arg8 harg8 arg9 harg9 arg10 harg10 arg11 harg11 n v2 v4 v22 v41 v43 v70 (harg4.unread x2) (harg6.unread x4) G_arg9 G_arg10 G_arg11 k0_pay402 8 (le_refl 8), hq, harg4.read_unread, harg6.read_unread]
  rfl

/-- Head 0's masked scores, read back. -/
theorem masked_t1 (v2 : Vec F S128x128 .bf16) (v4 : IVec S32x128 32) (v22 : IVec S32x128 32) (v41 : IVec S32x128 1) (v43 : IVec S32x128 32) (v70 : Vec F S1x8x128 .bf16) (G_arg9 : BufTy.Contents (Elt F) arg9.view.ty) (G_arg10 : BufTy.Contents (Elt F) arg10.view.ty) (G_arg11 : BufTy.Contents (Elt F) arg11.view.ty) (hq : k0_pay401 v2 v4 v22 v41 v43 v70 = query x1 (rowsOf x0 0)) (G : BufTy.Contents (Elt F) arg11.view.ty) (inb : ∀ a, (![0, 0] : Fin 2 → ℕ) a + S8x2048.size a ≤ S8x2048.size a) :
    View.readAt (Elt F) arg11.view (Rect.unit (s := S8x2048) ![0, 0] S8x2048.size inb).toLoadRect (arg11.view.writes (Elt F) G (st_k0_t1 (F := F) 𝒱 c bd i arg1 harg1 arg2 harg2 arg3 harg3 arg4 harg4 arg5 harg5 arg6 harg6 arg7 harg7 arg8 harg8 arg9 harg9 arg10 harg10 arg11 harg11 n v2 v4 v22 v41 v43 v70 (harg4.unread x2) (harg6.unread x4) G_arg9 G_arg10 G_arg11 k0_pay402 (Scf.trips k0_t1_loop.lb k0_t1_loop.ub k0_t1_loop.st)).2.2.2) = headMasked n x0 x1 x2 x4 0 := by
  rw [trips_t1, View.readAt_eq_ld, kept_t1, ld_weights, hq, harg4.read_unread, harg6.read_unread]
  rfl

/-- Head 0's stored scores. -/
theorem stored_t1 (v2 : Vec F S128x128 .bf16) (v4 : IVec S32x128 32) (v22 : IVec S32x128 32) (v41 : IVec S32x128 1) (v43 : IVec S32x128 32) (v70 : Vec F S1x8x128 .bf16) (G_arg9 : BufTy.Contents (Elt F) arg9.view.ty) (G_arg10 : BufTy.Contents (Elt F) arg10.view.ty) (G_arg11 : BufTy.Contents (Elt F) arg11.view.ty) (hq : k0_pay401 v2 v4 v22 v41 v43 v70 = query x1 (rowsOf x0 0)) (G : BufTy.Contents (Elt F) arg9.view.ty) (r : Fin 24) (q : Fin 2048)
    (hL : r.val / 8 ≠ 0 → arg9.view.read (Elt F) G (ix3 0 r q) = out9 n x0 x1 x2 x4 (ix3 0 r q)) :
    arg9.view.read (Elt F) (arg9.view.writes (Elt F) G (st_k0_t1 (F := F) 𝒱 c bd i arg1 harg1 arg2 harg2 arg3 harg3 arg4 harg4 arg5 harg5 arg6 harg6 arg7 harg7 arg8 harg8 arg9 harg9 arg10 harg10 arg11 harg11 n v2 v4 v22 v41 v43 v70 (harg4.unread x2) (harg6.unread x4) G_arg9 G_arg10 G_arg11 k0_pay402 (Scf.trips k0_t1_loop.lb k0_t1_loop.ub k0_t1_loop.st)).2.1) (ix3 0 r q) = out9 n x0 x1 x2 x4 (ix3 0 r q) := by
  rw [trips_t1, rows_t1, hq, harg4.read_unread, harg6.read_unread]
  by_cases c : r.val / 8 = 0
  · rw [if_pos c]
    have e : (⟨r.val / 8 % 3, Nat.mod_lt _ (by decide)⟩ : Fin 3) = 0 := Fin.ext (by show r.val / 8 % 3 = 0; omega)
    show _ = zeroed n (q.val / 256) (headScores x0 x1 x2 x4 ⟨r.val / 8 % 3, Nat.mod_lt _ (by decide)⟩ (q.val / 256)) _
    rw [e]
    rfl
  · rw [if_neg c]
    exact hL c

/-- Head 1's weights. -/
theorem weights_t3 (v2 : Vec F S128x128 .bf16) (v69 : IVec S32x128 1) (v83 : FVec F S8x2048 .f32) (v109 : Vec F S1x8x128 .bf16) (G_arg9 : BufTy.Contents (Elt F) arg9.view.ty) (G_arg10 : BufTy.Contents (Elt F) arg10.view.ty) (G_arg11 : BufTy.Contents (Elt F) arg11.view.ty) (hq : k0_pay409 v2 v69 v109 = query x1 (rowsOf x0 1)) (v : FVec F S8x2048 .f32) (hv : v = headMasked n x0 x1 x2 x4 1) :
    k0_pay412 (st_k0_t3 (F := F) 𝒱 c bd i arg1 harg1 arg2 harg2 arg3 harg3 arg4 harg4 arg5 harg5 arg6 harg6 arg7 harg7 arg8 harg8 arg9 harg9 arg10 harg10 arg11 harg11 n v2 v69 v83 v109 (harg4.unread x2) (harg6.unread x4) G_arg9 G_arg10 G_arg11 k0_pay410 (Scf.trips k0_t3_loop.lb k0_t3_loop.ub k0_t3_loop.st)).1 v = headWeights n x0 x1 x2 x4 1 := by
  subst hv
  rw [trips_t3, carry_t3 𝒱 c bd i arg1 harg1 arg2 harg2 arg3 harg3 arg4 harg4 arg5 harg5 arg6 harg6 arg7 harg7 arg8 harg8 arg9 harg9 arg10 harg10 arg11 harg11 n v2 v69 v83 v109 (harg4.unread x2) (harg6.unread x4) G_arg9 G_arg10 G_arg11 k0_pay410 8 (le_refl 8), hq, harg4.read_unread, harg6.read_unread]
  rfl

/-- Head 1's masked scores, read back. -/
theorem masked_t3 (v2 : Vec F S128x128 .bf16) (v69 : IVec S32x128 1) (v83 : FVec F S8x2048 .f32) (v109 : Vec F S1x8x128 .bf16) (G_arg9 : BufTy.Contents (Elt F) arg9.view.ty) (G_arg10 : BufTy.Contents (Elt F) arg10.view.ty) (G_arg11 : BufTy.Contents (Elt F) arg11.view.ty) (hq : k0_pay409 v2 v69 v109 = query x1 (rowsOf x0 1)) (G : BufTy.Contents (Elt F) arg11.view.ty) (L : List (View.Piece (Elt F) S8x2048 .f32)) (inb : ∀ a, (![0, 0] : Fin 2 → ℕ) a + S8x2048.size a ≤ S8x2048.size a) :
    View.readAt (Elt F) arg11.view (Rect.unit (s := S8x2048) ![0, 0] S8x2048.size inb).toLoadRect (arg11.view.writes (Elt F) G ((st_k0_t3 (F := F) 𝒱 c bd i arg1 harg1 arg2 harg2 arg3 harg3 arg4 harg4 arg5 harg5 arg6 harg6 arg7 harg7 arg8 harg8 arg9 harg9 arg10 harg10 arg11 harg11 n v2 v69 v83 v109 (harg4.unread x2) (harg6.unread x4) G_arg9 G_arg10 G_arg11 k0_pay410 (Scf.trips k0_t3_loop.lb k0_t3_loop.ub k0_t3_loop.st)).2.2.2 ++ L)) = headMasked n x0 x1 x2 x4 1 := by
  rw [View.writes_append, trips_t3, View.readAt_eq_ld, kept_t3, ld_weights, hq, harg4.read_unread, harg6.read_unread]
  rfl

/-- Head 1's stored scores. -/
theorem stored_t3 (v2 : Vec F S128x128 .bf16) (v69 : IVec S32x128 1) (v83 : FVec F S8x2048 .f32) (v109 : Vec F S1x8x128 .bf16) (G_arg9 : BufTy.Contents (Elt F) arg9.view.ty) (G_arg10 : BufTy.Contents (Elt F) arg10.view.ty) (G_arg11 : BufTy.Contents (Elt F) arg11.view.ty) (hq : k0_pay409 v2 v69 v109 = query x1 (rowsOf x0 1)) (G : BufTy.Contents (Elt F) arg9.view.ty) (L : List (View.Piece (Elt F) S1x24x2048 .f32)) (r : Fin 24) (q : Fin 2048)
    (hL : r.val / 8 ≠ 1 → arg9.view.read (Elt F) (arg9.view.writes (Elt F) G L) (ix3 0 r q) = out9 n x0 x1 x2 x4 (ix3 0 r q)) :
    arg9.view.read (Elt F) (arg9.view.writes (Elt F) G ((st_k0_t3 (F := F) 𝒱 c bd i arg1 harg1 arg2 harg2 arg3 harg3 arg4 harg4 arg5 harg5 arg6 harg6 arg7 harg7 arg8 harg8 arg9 harg9 arg10 harg10 arg11 harg11 n v2 v69 v83 v109 (harg4.unread x2) (harg6.unread x4) G_arg9 G_arg10 G_arg11 k0_pay410 (Scf.trips k0_t3_loop.lb k0_t3_loop.ub k0_t3_loop.st)).2.1 ++ L)) (ix3 0 r q) = out9 n x0 x1 x2 x4 (ix3 0 r q) := by
  rw [View.writes_append, trips_t3, rows_t3, hq, harg4.read_unread, harg6.read_unread]
  by_cases c : r.val / 8 = 1
  · rw [if_pos c]
    have e : (⟨r.val / 8 % 3, Nat.mod_lt _ (by decide)⟩ : Fin 3) = 1 := Fin.ext (by show r.val / 8 % 3 = 1; omega)
    show _ = zeroed n (q.val / 256) (headScores x0 x1 x2 x4 ⟨r.val / 8 % 3, Nat.mod_lt _ (by decide)⟩ (q.val / 256)) _
    rw [e]
    rfl
  · rw [if_neg c]
    exact hL c

/-- Head 2's weights. -/
theorem weights_t5 (v154 : FVec F S32x128 .bf16) (G_arg9 : BufTy.Contents (Elt F) arg9.view.ty) (G_arg10 : BufTy.Contents (Elt F) arg10.view.ty) (G_arg11 : BufTy.Contents (Elt F) arg11.view.ty) (hq : v154 = query x1 (rowsOf x0 2)) (v : FVec F S8x2048 .f32) (hv : v = headMasked n x0 x1 x2 x4 2) :
    k0_pay2 (st_k0_t5 (F := F) 𝒱 c bd i arg1 harg1 arg2 harg2 arg3 harg3 arg4 harg4 arg5 harg5 arg6 harg6 arg7 harg7 arg8 harg8 arg9 harg9 arg10 harg10 arg11 harg11 n v154 0#32 (harg4.unread x2) (harg6.unread x4) G_arg9 G_arg10 G_arg11 k0_pay417 (Scf.trips k0_t5_loop.lb k0_t5_loop.ub k0_t5_loop.st)).1 v = headWeights n x0 x1 x2 x4 2 := by
  subst hv
  rw [trips_t5, carry_t5 𝒱 c bd i arg1 harg1 arg2 harg2 arg3 harg3 arg4 harg4 arg5 harg5 arg6 harg6 arg7 harg7 arg8 harg8 arg9 harg9 arg10 harg10 arg11 harg11 n v154 (harg4.unread x2) (harg6.unread x4) G_arg9 G_arg10 G_arg11 k0_pay417 8 (le_refl 8), hq, harg4.read_unread, harg6.read_unread]
  rfl

/-- Head 2's masked scores, read back. -/
theorem masked_t5 (v154 : FVec F S32x128 .bf16) (G_arg9 : BufTy.Contents (Elt F) arg9.view.ty) (G_arg10 : BufTy.Contents (Elt F) arg10.view.ty) (G_arg11 : BufTy.Contents (Elt F) arg11.view.ty) (hq : v154 = query x1 (rowsOf x0 2)) (G : BufTy.Contents (Elt F) arg11.view.ty) (L : List (View.Piece (Elt F) S8x2048 .f32)) (inb : ∀ a, (![0, 0] : Fin 2 → ℕ) a + S8x2048.size a ≤ S8x2048.size a) :
    View.readAt (Elt F) arg11.view (Rect.unit (s := S8x2048) ![0, 0] S8x2048.size inb).toLoadRect (arg11.view.writes (Elt F) G ((st_k0_t5 (F := F) 𝒱 c bd i arg1 harg1 arg2 harg2 arg3 harg3 arg4 harg4 arg5 harg5 arg6 harg6 arg7 harg7 arg8 harg8 arg9 harg9 arg10 harg10 arg11 harg11 n v154 0#32 (harg4.unread x2) (harg6.unread x4) G_arg9 G_arg10 G_arg11 k0_pay417 (Scf.trips k0_t5_loop.lb k0_t5_loop.ub k0_t5_loop.st)).2.2.2 ++ L)) = headMasked n x0 x1 x2 x4 2 := by
  rw [View.writes_append, trips_t5, View.readAt_eq_ld, kept_t5, ld_weights, hq, harg4.read_unread, harg6.read_unread]
  rfl

/-- Head 2's stored scores. -/
theorem stored_t5 (v154 : FVec F S32x128 .bf16) (G_arg9 : BufTy.Contents (Elt F) arg9.view.ty) (G_arg10 : BufTy.Contents (Elt F) arg10.view.ty) (G_arg11 : BufTy.Contents (Elt F) arg11.view.ty) (hq : v154 = query x1 (rowsOf x0 2)) (G : BufTy.Contents (Elt F) arg9.view.ty) (L : List (View.Piece (Elt F) S1x24x2048 .f32)) (r : Fin 24) (q : Fin 2048)
    (hL : r.val / 8 ≠ 2 → arg9.view.read (Elt F) (arg9.view.writes (Elt F) G L) (ix3 0 r q) = out9 n x0 x1 x2 x4 (ix3 0 r q)) :
    arg9.view.read (Elt F) (arg9.view.writes (Elt F) G ((st_k0_t5 (F := F) 𝒱 c bd i arg1 harg1 arg2 harg2 arg3 harg3 arg4 harg4 arg5 harg5 arg6 harg6 arg7 harg7 arg8 harg8 arg9 harg9 arg10 harg10 arg11 harg11 n v154 0#32 (harg4.unread x2) (harg6.unread x4) G_arg9 G_arg10 G_arg11 k0_pay417 (Scf.trips k0_t5_loop.lb k0_t5_loop.ub k0_t5_loop.st)).2.1 ++ L)) (ix3 0 r q) = out9 n x0 x1 x2 x4 (ix3 0 r q) := by
  rw [View.writes_append, trips_t5, rows_t5, hq, harg4.read_unread, harg6.read_unread]
  by_cases c : r.val / 8 = 2
  · rw [if_pos c]
    have e : (⟨r.val / 8 % 3, Nat.mod_lt _ (by decide)⟩ : Fin 3) = 2 := Fin.ext (by show r.val / 8 % 3 = 2; omega)
    show _ = zeroed n (q.val / 256) (headScores x0 x1 x2 x4 ⟨r.val / 8 % 3, Nat.mod_lt _ (by decide)⟩ (q.val / 256)) _
    rw [e]
    rfl
  · rw [if_neg c]
    exact hL c

/-- Head 0's output rows. -/
theorem out_t2 (p : Vec F S128x128 .bf16) (hp : p = x1) (v1 : Elt F .i32) (v2 : Vec F S128x128 .bf16) (v69 : IVec S32x128 1) (v83 : FVec F S8x2048 .f32) (X_arg11 : BufTy.Contents (Elt F) arg11.view.ty) (G_arg10 : BufTy.Contents (Elt F) arg10.view.ty) (hX : arg11.view.read (Elt F) X_arg11 = headWeights n x0 x1 x2 x4 0) :
    k0_pay408 p diag (st_k0_t2 (F := F) 𝒱 c bd i arg1 harg1 arg2 harg2 arg3 harg3 arg4 harg4 arg5 harg5 arg6 harg6 arg7 harg7 arg8 harg8 arg9 harg9 arg10 harg10 arg11 harg11 v1 v2 v69 v83 (harg5.unread x3) (harg7.unread x5) X_arg11 G_arg10 k0_pay406 (Scf.trips k0_t2_loop.lb k0_t2_loop.ub k0_t2_loop.st)).1 = headOut n x0 x1 x2 x3 x4 x5 0 := by
  subst hp
  rw [trips_t2, carry_t2 𝒱 c bd i arg1 harg1 arg2 harg2 arg3 harg3 arg4 harg4 arg5 harg5 arg6 harg6 arg7 harg7 arg8 harg8 arg9 harg9 arg10 harg10 arg11 harg11 v1 v2 v69 v83 (harg5.unread x3) (harg7.unread x5) X_arg11 G_arg10 k0_pay406 8 (le_refl 8), hX, harg5.read_unread, harg7.read_unread]
  rfl

/-- Head 1's output rows. -/
theorem out_t4 (p : Vec F S128x128 .bf16) (hp : p = x1) (v2 : Vec F S128x128 .bf16) (v69 : IVec S32x128 1) (v118 : FVec F S8x1 .f32) (X_arg11 : BufTy.Contents (Elt F) arg11.view.ty) (G_arg10 : BufTy.Contents (Elt F) arg10.view.ty) (hX : arg11.view.read (Elt F) X_arg11 = headWeights n x0 x1 x2 x4 1) :
    k0_pay415 p diag (st_k0_t4 (F := F) 𝒱 c bd i arg1 harg1 arg2 harg2 arg3 harg3 arg4 harg4 arg5 harg5 arg6 harg6 arg7 harg7 arg8 harg8 arg9 harg9 arg10 harg10 arg11 harg11 v2 v69 v118 (harg5.unread x3) (harg7.unread x5) X_arg11 G_arg10 k0_pay413 (Scf.trips k0_t4_loop.lb k0_t4_loop.ub k0_t4_loop.st)).1 = headOut n x0 x1 x2 x3 x4 x5 1 := by
  subst hp
  rw [trips_t4, carry_t4 𝒱 c bd i arg1 harg1 arg2 harg2 arg3 harg3 arg4 harg4 arg5 harg5 arg6 harg6 arg7 harg7 arg8 harg8 arg9 harg9 arg10 harg10 arg11 harg11 v2 v69 v118 (harg5.unread x3) (harg7.unread x5) X_arg11 G_arg10 k0_pay413 8 (le_refl 8), hX, harg5.read_unread, harg7.read_unread]
  rfl

/-- Head 2's output rows. -/
theorem out_t6 (p : Vec F S128x128 .bf16) (hp : p = x1) (X_arg11 : BufTy.Contents (Elt F) arg11.view.ty) (G_arg10 : BufTy.Contents (Elt F) arg10.view.ty) (hX : arg11.view.read (Elt F) X_arg11 = headWeights n x0 x1 x2 x4 2) :
    k0_pay5 p diag (st_k0_t6 (F := F) 𝒱 c bd i arg1 harg1 arg2 harg2 arg3 harg3 arg4 harg4 arg5 harg5 arg6 harg6 arg7 harg7 arg8 harg8 arg9 harg9 arg10 harg10 arg11 harg11 (harg5.unread x3) (harg7.unread x5) X_arg11 G_arg10 k0_pay3 (Scf.trips k0_t6_loop.lb k0_t6_loop.ub k0_t6_loop.st)).1 = headOut n x0 x1 x2 x3 x4 x5 2 := by
  subst hp
  rw [trips_t6, carry_t6 𝒱 c bd i arg1 harg1 arg2 harg2 arg3 harg3 arg4 harg4 arg5 harg5 arg6 harg6 arg7 harg7 arg8 harg8 arg9 harg9 arg10 harg10 arg11 harg11 (harg5.unread x3) (harg7.unread x5) X_arg11 G_arg10 k0_pay3 8 (le_refl 8), hX, harg5.read_unread, harg7.read_unread]
  rfl

end Cert.KernelIdeal.Clean

end
-- ==== Proof.KernelIdeal.RunV.lean ====
module

public import proofs.«01_k».proof.Proof.KernelIdeal.Runs
public import proofs.«01_k».proof.Proof.KernelIdeal.Out

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The length of the kernel's own row, as the body reads it. -/
def lenAt (c : Dev nD) (i : grid0.Coords) (xt0 : TbBuf0 (F := F) c tbM0_0) : BitVec 32 :=
  View.readAt (Elt F) tbM0_0.view (Rect.unit (s := S72) (k0_off1 i) S1.size (k0_off1_inb i)).toLoadRect xt0 (Shape.Idx.first (s := S1) (by decide))

-- (the run's proof term is large: checking it walks past the default budget)
set_option maxHeartbeats 1600000 in
/-- The body's triple: on whole staging memrefs — the inputs' at their contents,
    the outputs' (6, 7) at anything —
    the body runs to the continuation holding the inputs' as they were, the outputs' at `out8` and `out9`, the scratch at some contents: the printed functions are their skeletons (`Gen.*_eq_skeleton`),
    which `sl_exec` runs (Lib/Exec.lean). -/
theorem kernelRun0_V (c : Dev nD) (i : grid0.Coords) (arg2 : Memref sig .tc .vmem S1x24x128 .bf16) (harg2 : arg2.IsWhole) (arg3 : Memref sig .tc .vmem S128x128 .bf16) (harg3 : arg3.IsWhole) (arg4 : Memref sig .tc .vmem S1x3x96x2048 .i8) (harg4 : arg4.IsWhole) (arg5 : Memref sig .tc .vmem S1x3x96x2048 .i8) (harg5 : arg5.IsWhole) (arg6 : Memref sig .tc .vmem S1x3x4x2048 .i8) (harg6 : arg6.IsWhole) (arg7 : Memref sig .tc .vmem S1x3x4x2048 .i8) (harg7 : arg7.IsWhole) (arg8 : Memref sig .tc .vmem S1x24x128 .bf16) (harg8 : arg8.IsWhole) (arg9 : Memref sig .tc .vmem S1x24x2048 .f32) (harg9 : arg9.IsWhole) (arg10 : Memref sig .tc .vmem S24x128 .i32) (harg10 : arg10.IsWhole) (arg11 : Memref sig .tc .vmem S8x2048 .f32) (harg11 : arg11.IsWhole)
    (x0 : Vec F S1x24x128 .bf16) (x1 : Vec F S128x128 .bf16) (x2 : Vec F S1x3x96x2048 .i8) (x3 : Vec F S1x3x96x2048 .i8) (x4 : Vec F S1x3x4x2048 .i8) (x5 : Vec F S1x3x4x2048 .i8) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (Clean.out8 (lenAt c i xt0) x0 x1 x2 x3 x4 x5) ∗ owns (c : Thread nD τ) arg9 fullShare (Clean.out9 (lenAt c i xt0) x0 x1 x2 x4) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0__body i tbM0_0 htbM0_0 arg2 harg2 arg3 harg3 arg4 harg4 arg5 harg5 arg6 harg6 arg7 harg7 arg8 harg8 arg9 harg9 arg10 harg10 arg11 harg11) K := by
    intro E K
    simp only [cc0__body_eq_skeleton]; unfold cc0__body_skel
    simp only [k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    have hp : View.readAt (Elt F) arg3.view (Rect.unit (s := S128x128) ![0, 0] S128x128.size inb_S128x128_S128x128_0_0).toLoadRect (harg3.unread x1) = x1 := by
      rw [View.readAt_eq_ld, harg3.read_unread, Clean.ld_perm]
    have hx : ∀ (h : Fin 3) (off : Fin 3 → ℕ) (ho : off = ![0, 8 * h.val, 0]) (inb : ∀ a, off a + S1x8x128.size a ≤ S1x24x128.size a),
        View.readAt (Elt F) arg2.view (Rect.unit (s := S1x24x128) off S1x8x128.size inb).toLoadRect (harg2.unread x0) = Clean.rowsOf x0 h := fun h off ho inb => by
      rw [View.readAt_eq_ld, harg2.read_unread, Clean.ld_rowsOf x0 h off ho]
    have hquery : ∀ (h : Fin 3) (off : Fin 3 → ℕ) (ho : off = ![0, 8 * h.val, 0]) (inb : ∀ a, off a + S1x8x128.size a ≤ S1x24x128.size a),
        k0_pay409 (View.readAt (Elt F) arg3.view (Rect.unit (s := S128x128) ![0, 0] S128x128.size inb_S128x128_S128x128_0_0).toLoadRect (harg3.unread x1)) Clean.diag
          (View.readAt (Elt F) arg2.view (Rect.unit (s := S1x24x128) off S1x8x128.size inb).toLoadRect (harg2.unread x0)) = Clean.query x1 (Clean.rowsOf x0 h) := fun h off ho inb => by
      rw [hp, hx h off ho inb]; rfl
    have hq0 := hquery 0 ![0, 0, 0] rfl inb_S1x24x128_S1x8x128_0_0_0
    have hq1 := hquery 1 ![0, 8, 0] rfl inb_S1x24x128_S1x8x128_0_8_0
    have hq2 := hquery 2 ![0, 16, 0] rfl inb_S1x24x128_S1x8x128_0_16_0
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine Clean.read_three _ _ _ _ _ _ _ _ (Clean.headOut (lenAt c i xt0) x0 x1 x2 x3 x4 x5) ?_ ?_ ?_
      · exact Clean.out_t2 (hp := hp) (hX := (Clean.read_whole _ _ _ _ _).trans (Clean.weights_t1 (hq := hq0) (hv := Clean.masked_t1 (hq := hq0) ..) ..)) ..
      · exact Clean.out_t4 (hp := hp) (hX := (Clean.read_whole _ _ _ _ _).trans (Clean.weights_t3 (hq := hq1) (hv := Clean.masked_t3 (hq := hq1) ..) ..)) ..
      · exact Clean.out_t6 (hp := hp) (hX := (Clean.read_whole _ _ _ _ _).trans (Clean.weights_t5 (hq := hq2) (hv := Clean.masked_t5 (hq := hq2) ..) ..)) ..
    isplitl [H7]
    · iexists _; isplitr; swap; · iexact H7
      ipureintro
      funext y
      idx_vars y
      obtain rfl : y0 = 0 := Subsingleton.elim (α := Fin 1) _ _
      refine Clean.stored_t5 (hq := hq2) (hL := fun c5 => Clean.stored_t3 (hq := hq1) (hL := fun c3 => Clean.stored_t1 (hq := hq0) (hL := fun c1 => ?_) ..) ..) ..
      have := y1.isLt
      exact absurd this (by show ¬ y1.val < 24; omega)
    isplitl [HS0]
    · iexists _, _; isplitr; swap; · iexact HS0
      ipureintro; rfl
    isplitl [HS1]
    · iexists _, _; isplitr; swap; · iexact HS1
      ipureintro; rfl
    iexact HT0

end Cert.KernelIdeal.Run

end
-- ==== Proof.KernelIdeal.FrameV.lean ====
module

public import proofs.«01_k».proof.Proof.KernelIdeal.RunV
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The block of the attention output that the body leaves at point `t`, -/
def o8 (hO : Ok m) (c : Dev nD) (t : Fin (cfgM m hO).N) : Vec F S1x24x128 .bf16 :=
  Clean.out8 (lenAt c (grid0.coords t) (tbl m 0)) (iblk m hO c 0 t) (iblk m hO c 1 t) (iblk m hO c 2 t) (iblk m hO c 3 t) (iblk m hO c 4 t) (iblk m hO c 5 t)

/-- and of the scores. -/
def o9 (hO : Ok m) (c : Dev nD) (t : Fin (cfgM m hO).N) : Vec F S1x24x2048 .f32 :=
  Clean.out9 (lenAt c (grid0.coords t) (tbl m 0)) (iblk m hO c 0 t) (iblk m hO c 1 t) (iblk m hO c 2 t) (iblk m hO c 4 t)

/-- The proof data of the one pipeline on core `c`: the arrays as the region finds them (`V`); after the body at
    point `t` each input's buffer at its block and the outputs' at `o8` and `o9`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => o8 m hO c t
    | ⟨7, _⟩ => o9 m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = o8 m hO c t := by dsimp only [dats]; try rfl
theorem after0_7 (hO : Ok m) (c : Dev nD) (t : Fin (cfgM m hO).N) : (dats m hO 0 c).after 7 t = o9 m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_V c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HT0]; · iexact HT0
  iintro ⟨H0, H1, H2, H3, H4, H5, H6, H7, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: every final state has each pipeline array at what the proof data says, every other unscoped buffer at
    its region-entry contents, and every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-! ## The result arrays -/

theorem idx6 : ∀ t : Fin grid0.N, cc0_transform_6 (grid0.coords t) 0 = t.val ∧ cc0_transform_6 (grid0.coords t) 1 = 0 ∧ cc0_transform_6 (grid0.coords t) 2 = 0 := by decide +kernel
theorem idx7 : ∀ t : Fin grid0.N, cc0_transform_7 (grid0.coords t) 0 = t.val ∧ cc0_transform_7 (grid0.coords t) 1 = 0 ∧ cc0_transform_7 (grid0.coords t) 2 = 0 := by decide +kernel

/-- An entry of point `t`'s block is the entry of row `t` of the array. -/
theorem emb6 (hO : Ok m) (t : Fin (cfgM m hO).N) (j : S1x24x128.Idx) : (((cfgM m hO).win 6).blk t).view.emb j = (ix3 (⟨t.val, t.isLt.trans_eq N_0⟩ : Fin 72) (j 1) (j 2) : S72x24x128.Idx) := by
  obtain ⟨e0, e1, e2⟩ := idx6 t
  idx_vars j
  funext a; apply Fin.ext
  match a with
  | ⟨0, _⟩ => show cc0_transform_6 (grid0.coords t) 0 * 1 + 1 * j0.val = t.val; omega
  | ⟨1, _⟩ => show cc0_transform_6 (grid0.coords t) 1 * 24 + 1 * j1.val = j1.val; omega
  | ⟨2, _⟩ => show cc0_transform_6 (grid0.coords t) 2 * 128 + 1 * j2.val = j2.val; omega

theorem emb7 (hO : Ok m) (t : Fin (cfgM m hO).N) (j : S1x24x2048.Idx) : (((cfgM m hO).win 7).blk t).view.emb j = (ix3 (⟨t.val, t.isLt.trans_eq N_0⟩ : Fin 72) (j 1) (j 2) : S72x24x2048.Idx) := by
  obtain ⟨e0, e1, e2⟩ := idx7 t
  idx_vars j
  funext a; apply Fin.ext
  match a with
  | ⟨0, _⟩ => show cc0_transform_7 (grid0.coords t) 0 * 1 + 1 * j0.val = t.val; omega
  | ⟨1, _⟩ => show cc0_transform_7 (grid0.coords t) 1 * 24 + 1 * j1.val = j1.val; omega
  | ⟨2, _⟩ => show cc0_transform_7 (grid0.coords t) 2 * 2048 + 1 * j2.val = j2.val; omega

/-- The grid point of batch row `b`. -/
def pt (b : Fin 72) : Fin grid0.N := ⟨b.val, b.isLt.trans_eq N_0.symm⟩

/-- The attention output's array, block by block, -/
def val8 (hO : Ok m) (c : Dev nD) : Buf (Elt F) ((c : Thread nD τ).loc main_v5_0) :=
  fun y : S72x24x128.Idx => o8 m hO c (pt (y 0)) (ix3 0 (y 1) (y 2))

/-- and the scores'. -/
def val9 (hO : Ok m) (c : Dev nD) : Buf (Elt F) ((c : Thread nD τ).loc main_v5_1) :=
  fun y : S72x24x2048.Idx => o9 m hO c (pt (y 0)) (ix3 0 (y 1) (y 2))

attribute [local irreducible] o8 o9

theorem eq_ix3' {n0 n1 : ℕ} (j : (⟨3, ![1, n0, n1]⟩ : Shape).Idx) : j = ix3 0 (j 1) (j 2) := by
  funext a
  match a with
  | ⟨0, _⟩ => exact Subsingleton.elim (α := Fin 1) _ _
  | ⟨1, _⟩ => rfl
  | ⟨2, _⟩ => rfl

theorem flushed6 (hO : Ok m) (c : Dev nD) (t : Fin (cfgM m hO).N) :
    (dats m hO 0 c).flushed 6 t = (((cfgM m hO).win 6).blk t).view.read (Elt F) (val8 m hO c) := by
  show ((cfgM m hO).win 6).cut (grid0.coords t) ((dats m hO 0 c).after 6 t) = _
  rw [after0_6]
  exact funext fun j : S1x24x128.Idx => by
    have e1 : o8 m hO c t j = o8 m hO c t (ix3 0 (j 1) (j 2)) := congrArg (o8 m hO c t) (eq_ix3' (n0 := 24) (n1 := 128) j)
    have e2 := congrArg (val8 m hO c) (emb6 m hO t j)
    exact e1.trans e2.symm

theorem flushed7 (hO : Ok m) (c : Dev nD) (t : Fin (cfgM m hO).N) :
    (dats m hO 0 c).flushed 7 t = (((cfgM m hO).win 7).blk t).view.read (Elt F) (val9 m hO c) := by
  show ((cfgM m hO).win 7).cut (grid0.coords t) ((dats m hO 0 c).after 7 t) = _
  rw [after0_7]
  exact funext fun j : S1x24x2048.Idx => by
    have e1 : o9 m hO c t j = o9 m hO c t (ix3 0 (j 1) (j 2)) := congrArg (o9 m hO c t) (eq_ix3' (n0 := 24) (n1 := 2048) j)
    have e2 := congrArg (val9 m hO c) (emb7 m hO t j)
    exact e1.trans e2.symm

theorem cover6 (hO : Ok m) (i : S72x24x128.Idx) :
    ∃ t : Fin (cfgM m hO).N, ((cfgM m hO).win 6).flush t = true ∧ i ∈ (((cfgM m hO).win 6).blk t).view.set := by
  refine ⟨pt (i 0), flush0_6 _ _, ?_⟩
  have h := (((cfgM m hO).win 6).blk (pt (i 0))).view.emb_mem_set (ix3 0 (i 1) (i 2) : S1x24x128.Idx)
  rw [emb6] at h
  idx_vars i
  exact h

theorem cover7 (hO : Ok m) (i : S72x24x2048.Idx) :
    ∃ t : Fin (cfgM m hO).N, ((cfgM m hO).win 7).flush t = true ∧ i ∈ (((cfgM m hO).win 7).blk t).view.set := by
  refine ⟨pt (i 0), flush0_7 _ _, ?_⟩
  have h := (((cfgM m hO).win 7).blk (pt (i 0))).view.emb_mem_set (ix3 0 (i 1) (i 2) : S1x24x2048.Idx)
  rw [emb7] at h
  idx_vars i
  exact h

/-- THE RUN, read: both result arrays, the argument arrays unchanged, every semaphore counter at zero. -/
theorem run (hO : Ok m) : θ_run defs (onTc (τ := τ) (main (F := F))) ⟨m, fun _ => 0, ρ⟩ (fun r => (∀ c : Dev nD,
      r.2.mem ((c.tc : Thread nD τ).loc main_v5_0) = val8 m hO c
      ∧ r.2.mem ((c.tc : Thread nD τ).loc main_v5_1) = val9 m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 6).trans ((dats m hO 0 c).arrAt_eq_of_cover 6 (val8 m hO c) (fun t _ => flushed6 m hO c t) (cover6 m hO)),
      ((h.1 c).1 7).trans ((dats m hO 0 c).arrAt_eq_of_cover 7 (val9 m hO c) (fun t _ => flushed7 m hO c t) (cover7 m hO)),
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c)⟩, h.2⟩) (run_main_quiescent m ρ hO)

/-- THE FRAME: `Cert.quiescent_KernelIdeal`'s statement (Defs.lean) at any `F`. The hypothesis `Ok m` is `True`: no index map reads the table. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2, h.2⟩) (run m ρ hO)

end Cert.KernelIdeal.Run

end
-- ==== Proof.Math.Value.lean ====
module

public import Idealize.ShloMosaic.Lib.Pointwise
public import Idealize.ShloMosaic.Lib.IdealHost

@[expose] public section

set_option maxRecDepth 16384

noncomputable section

/-! The numbers behind the packed bytes: six-bit floats and their scales, as extended reals. -/

namespace Cert.Math

open Idealize.ShloMosaic

/-- The exponent field of a six-bit float. -/
def expo (c : BitVec 32) : BitVec 32 := IntOp.andi (IntOp.shrsi .host c 2#32) 7#32

/-- Its magnitude: an exponent field of zero has no leading one. -/
def mag (c : BitVec 32) : EReal :=
  FloatOps.sitofp (F := Ideal) .f32 (IntOp.addi (Scalar.select (IntOp.cmpi .sgt (expo c) 0#32) 4#32 0#32) (IntOp.andi c 3#32))
    * FloatOps.exp2 (F := Ideal) (φ := .f32) (FloatOps.sitofp (F := Ideal) .f32 (IntOp.subi (IntOp.maxsi (expo c) 1#32) 5#32))

/-- The six-bit float in the low bits of `c`. -/
def fp6 (c : BitVec 32) : EReal :=
  Scalar.select (IntOp.cmpi .eq (IntOp.andi (IntOp.shrsi .host c 5#32) 1#32) 1#32) (-mag c) (mag c)

theorem getLsbD_seven (i : ℕ) (hi : i < 32) : (7#32 : BitVec 32).getLsbD i = decide (i < 3) := by interval_cases i <;> rfl

theorem getLsbD_three (i : ℕ) (hi : i < 32) : (3#32 : BitVec 32).getLsbD i = decide (i < 2) := by interval_cases i <;> rfl

theorem getLsbD_one (i : ℕ) (hi : i < 32) : (1#32 : BitVec 32).getLsbD i = decide (i < 1) := by interval_cases i <;> rfl

theorem getLsbD_63 (i : ℕ) (hi : i < 32) : (63#32 : BitVec 32).getLsbD i = decide (i < 6) := by interval_cases i <;> rfl

theorem shrsi_getLsbD (u : ArithUnit) (c : BitVec 32) (n : BitVec 32) (hn : n.toNat < 32) (i : ℕ) (h : n.toNat + i < 32) :
    (IntOp.shrsi u c n).getLsbD i = c.getLsbD (n.toNat + i) := by
  rw [IntOp.shrsi, if_pos hn, BitVec.sshiftRight', BitVec.getLsbD_sshiftRight]
  have : i < 32 := by omega
  simp [this, h]

theorem shli_getLsbD (u : ArithUnit) (c : BitVec 32) (n : BitVec 32) (hn : n.toNat < 32) (i : ℕ) (h : i < 32) :
    (IntOp.shli u c n).getLsbD i = if i < n.toNat then false else c.getLsbD (i - n.toNat) := by
  rw [IntOp.shli, if_pos hn, BitVec.shiftLeft_eq', BitVec.getLsbD_shiftLeft]
  by_cases c : i < n.toNat <;> simp [c, h]

theorem shrui_getLsbD (u : ArithUnit) (c : BitVec 32) (n : BitVec 32) (hn : n.toNat < 32) (i : ℕ) :
    (IntOp.shrui u c n).getLsbD i = c.getLsbD (n.toNat + i) := by
  rw [IntOp.shrui, if_pos hn, BitVec.ushiftRight_eq', BitVec.getLsbD_ushiftRight]

/-- Only the low six bits matter. -/
theorem fp6_congr (c d : BitVec 32) (h : ∀ t < 6, c.getLsbD t = d.getLsbD t) : fp6 c = fp6 d := by
  have he : expo c = expo d := by
    refine BitVec.eq_of_getLsbD_eq fun i hi => ?_
    simp only [expo, IntOp.andi, BitVec.getLsbD_and, getLsbD_seven i hi]
    by_cases ci : i < 3
    · rw [shrsi_getLsbD _ _ _ (by decide) _ (by show 2 + i < 32; omega), shrsi_getLsbD _ _ _ (by decide) _ (by show 2 + i < 32; omega), h _ (by show 2 + i < 6; omega)]
    · simp [ci]
  have hm : IntOp.andi c 3#32 = IntOp.andi d 3#32 := by
    refine BitVec.eq_of_getLsbD_eq fun i hi => ?_
    simp only [IntOp.andi, BitVec.getLsbD_and, getLsbD_three i hi]
    by_cases ci : i < 2
    · rw [h _ (by omega)]
    · simp [ci]
  have hs : IntOp.andi (IntOp.shrsi .host c 5#32) 1#32 = IntOp.andi (IntOp.shrsi .host d 5#32) 1#32 := by
    refine BitVec.eq_of_getLsbD_eq fun i hi => ?_
    simp only [IntOp.andi, BitVec.getLsbD_and, getLsbD_one i hi]
    by_cases ci : i < 1
    · rw [shrsi_getLsbD _ _ _ (by decide) _ (by show 5 + i < 32; omega), shrsi_getLsbD _ _ _ (by decide) _ (by show 5 + i < 32; omega), h _ (by show 5 + i < 6; omega)]
    · simp [ci]
  unfold fp6 mag
  rw [he, hm, hs]

/-- Element `d` of a row of packed bytes: four codes to three bytes, low bits first. -/
def code (B : ℕ → BitVec 8) (d : ℕ) : BitVec 32 :=
  IntOp.andi
    (IntOp.shrsi .host
      (IntOp.ori (IntOp.ori (BitVec.setWidth 32 (B (d / 4 * 3))) (IntOp.shli .host (BitVec.setWidth 32 (B (d / 4 * 3 + 1))) 8#32))
        (IntOp.shli .host (BitVec.setWidth 32 (B (d / 4 * 3 + 2))) 16#32))
      (IntOp.muli 6#32 (BitVec.ofNat 32 (d % 4))))
    63#32

theorem code_getLsbD (B : ℕ → BitVec 8) (d t : ℕ) (ht : t < 6) :
    (code B d).getLsbD t = (B (d / 4 * 3 + (6 * (d % 4) + t) / 8)).getLsbD ((6 * (d % 4) + t) % 8) := by
  have hm : (IntOp.muli 6#32 (BitVec.ofNat 32 (d % 4))).toNat = 6 * (d % 4) := by
    have : d % 4 < 4 := Nat.mod_lt _ (by decide)
    interval_cases d % 4 <;> rfl
  have h4 : d % 4 < 4 := Nat.mod_lt _ (by decide)
  have ht32 : t < 32 := by omega
  simp only [code, IntOp.andi, BitVec.getLsbD_and, getLsbD_63 t ht32, ht, decide_true, Bool.and_true]
  rw [shrsi_getLsbD _ _ _ (by omega) _ (by omega), hm]
  generalize hq : 6 * (d % 4) + t = q
  have hq24 : q < 24 := by omega
  have past (x : BitVec 8) (i : ℕ) (h : 8 ≤ i) : x.getLsbD i = false := BitVec.getLsbD_of_ge x i h
  simp only [IntOp.ori, BitVec.getLsbD_or]
  rw [shli_getLsbD _ _ _ (by decide) _ (by omega), shli_getLsbD _ _ _ (by decide) _ (by omega)]
  simp only [show (8#32 : BitVec 32).toNat = 8 from rfl, show (16#32 : BitVec 32).toNat = 16 from rfl, BitVec.getLsbD_setWidth]
  have hc : q / 8 = 0 ∨ q / 8 = 1 ∨ q / 8 = 2 := by omega
  rcases hc with c | c | c
  · rw [if_pos (by omega), if_pos (by omega), c, show q % 8 = q by omega]
    simp only [Bool.or_false, Nat.add_zero]
    simp; intro; omega
  · rw [if_neg (by omega), if_pos (by omega), c, show q % 8 = q - 8 by omega, past _ q (by omega)]
    simp; intro; omega
  · rw [if_neg (by omega), if_neg (by omega), c, show q % 8 = q - 16 by omega, past _ q (by omega), past _ (q - 8) (by omega)]
    simp; intro; omega

/-- A power of two, by its biased exponent byte. -/
def scale (s : BitVec 8) : EReal := (((2 : ℝ) ^ ((s.toNat : ℤ) - 127) : ℝ) : EReal)

theorem scale_nonneg (s : BitVec 8) : 0 ≤ scale s := EReal.coe_nonneg.mpr (by positivity)

theorem scale_ne_top (s : BitVec 8) : scale s ≠ ⊤ := EReal.coe_ne_top _

/-- The float whose exponent field is a byte that is neither zero nor all ones. -/
theorem ofBits_shli (s : BitVec 8) (h1 : 1 ≤ s.toNat) (h2 : s.toNat ≤ 254) :
    Ideal.ofBits .f32 (IntOp.shli .vector (BitVec.setWidth 32 s) 23#32) = scale s := by
  have hn : (IntOp.shli .vector (BitVec.setWidth 32 s) 23#32).toNat = s.toNat * 2 ^ 23 := by
    rw [IntOp.shli, if_pos (by decide), BitVec.shiftLeft_eq', BitVec.toNat_shiftLeft]
    simp only [BitVec.toNat_setWidth, Nat.shiftLeft_eq, show (23#32 : BitVec 32).toNat = 23 from rfl]
    have := s.isLt
    rw [Nat.mod_eq_of_lt (a := s.toNat) (by omega), Nat.mod_eq_of_lt (by omega)]
  generalize IntOp.shli .vector (BitVec.setWidth 32 s) 23#32 = b at hn ⊢
  have hneg : (b.extractLsb' (8 + 23) 1 == 1#1) = false := by
    rw [beq_eq_false_iff_ne]
    intro h
    have := congrArg BitVec.toNat h
    simp only [BitVec.extractLsb'_toNat, hn, Nat.shiftRight_eq_div_pow, BitVec.toNat_ofNat] at this
    omega
  have hex : (b.extractLsb' 23 8).toNat = s.toNat := by
    simp only [BitVec.extractLsb'_toNat, hn, Nat.shiftRight_eq_div_pow]
    omega
  have hfr : (b.extractLsb' 0 23).toNat = 0 := by
    simp only [BitVec.extractLsb'_toNat, hn, Nat.shiftRight_eq_div_pow]
    omega
  show Ideal.ieee 8 23 b = _
  unfold Ideal.ieee
  simp only [hneg, hex, hfr]
  rw [if_neg (by norm_num; omega), if_neg (by omega)]
  unfold scale
  congr 1
  have h2 : (2 : ℝ) ≠ 0 := by norm_num
  simp only [Bool.false_eq_true, if_false, Nat.add_zero, one_mul]
  rw [show ((2 ^ 23 : ℕ) : ℝ) = (2 : ℝ) ^ (23 : ℤ) by norm_num, ← zpow_add₀ h2]
  congr 1
  norm_num

theorem sitofp_eq (b : BitVec 32) : FloatOps.sitofp (F := Ideal) .f32 b = ((b.toInt : ℝ) : EReal) := rfl

theorem two_eq : Ideal.ofBits .f32 0x40000000#32 = ((2 : ℝ) : EReal) := by
  show Ideal.ieee 8 23 0x40000000#32 = _
  simp [Ideal.ieee]
  rw [← EReal.coe_mul]
  norm_num

/-- The host's power of two. -/
theorem pow_two (b : BitVec 32) : Ideal.pow (Ideal.ofBits .f32 0x40000000#32) (FloatOps.sitofp (F := Ideal) .f32 b)
    = (((2 : ℝ) ^ b.toInt : ℝ) : EReal) := by
  rw [two_eq, sitofp_eq, Ideal.pow_coe_coe]
  exact congrArg _ (Real.rpow_intCast 2 b.toInt)

/-- The kernel's. -/
theorem exp2_eq (b : BitVec 32) : FloatOps.exp2 (F := Ideal) (φ := .f32) (FloatOps.sitofp (F := Ideal) .f32 b) = (((2 : ℝ) ^ b.toInt : ℝ) : EReal) := by
  rw [sitofp_eq]
  exact congrArg Real.toEReal (Real.rpow_intCast 2 b.toInt)

theorem pow_scale (s : BitVec 8) :
    Ideal.pow (Ideal.ofBits .f32 0x40000000#32) (FloatOps.sitofp (F := Ideal) .f32 (IntOp.subi (BitVec.setWidth 32 s) 127#32)) = scale s := by
  rw [pow_two, scale]
  congr 2
  have := s.isLt
  simp only [IntOp.subi]
  have e : (BitVec.setWidth 32 s - 127#32 : BitVec 32).toInt = ((s.toNat : ℤ) - 127) := by
    rw [BitVec.toInt_sub]
    simp only [BitVec.toInt_setWidth, show (127#32 : BitVec 32).toInt = 127 from rfl]
    rw [Int.bmod_def, Int.bmod_def]
    split_ifs <;> omega
  exact e

/-- A sum of extended reals times a nonnegative real. -/
theorem sum_mul {ι : Type*} (S : Finset ι) (f : ι → EReal) (a : EReal) (h0 : 0 ≤ a) (ht : a ≠ ⊤) : (∑ x ∈ S, f x) * a = ∑ x ∈ S, f x * a := by
  classical
  induction S using Finset.induction_on with
  | empty => simp
  | insert x S hx ih => rw [Finset.sum_insert hx, Finset.sum_insert hx, EReal.right_distrib_of_nonneg_of_ne_top h0 ht, ih]

end Cert.Math

end
-- ==== Proof.KernelIdeal.Codes.lean ====
module

public import proofs.«01_k».proof.Proof.KernelIdeal.Clean
public import proofs.«01_k».proof.Proof.Math.Value
public import Idealize.ShloMosaic.Lib.BitcastFour

@[expose] public section

set_option maxRecDepth 16384

noncomputable section

/-! What a tile holds: each element is the six-bit float of one element of the packed row, in a fixed order. -/

namespace Cert.KernelIdeal.Clean

open Cert.KernelIdeal Cert.KernelIdeal.Gen
open Idealize.ShloMosaic Idealize.ShloMosaic.TcCoe Idealize.ShloMosaic.Tactic
open Cert.Math

/-- Which of the 16 codes of a group the unpacking puts at row block `j`, byte `k`. -/
def slot (j k : ℕ) : ℕ := match j, k with
  | 0, 0 => 0 | 0, 1 => 12 | 0, 2 => 8 | 0, _ => 4
  | 1, 0 => 11 | 1, 1 => 7 | 1, 2 => 3 | 1, _ => 15
  | 2, 0 => 6 | 2, 1 => 2 | 2, 2 => 14 | 2, _ => 10
  | _, 0 => 1 | _, 1 => 13 | _, 2 => 9 | _, _ => 5

/-- The element of the packed row that the unpacking puts at `x`. -/
def pos (x : ℕ) : ℕ := 16 * (x % 32 / 4) + slot (x / 32) (x % 4)

theorem shrsi_unit (c n : BitVec 32) (hn : n.toNat < 32) : IntOp.shrsi .vector c n = IntOp.shrsi .host c n := by
  rw [IntOp.shrsi, IntOp.shrsi, if_pos hn, if_pos hn]

/-- A word read as four bytes. -/
theorem bitcast_32_8_ix2 (x : IVec S8x128 32) (p : Fin 32) (l : Fin 128) (u : ℕ) (hu : u < 8) (a : Fin 8) (ha : a.val = p.val / 4) :
    (bitcast S32x128 8 x bitcasts_S8x128_w32_S32x128_w8 (ix2 p l)).getLsbD u = (x (ix2 a l)).getLsbD (8 * (p.val % 4) + u) := by
  have hr : (S32x128).row (ix2 p l) = p.val := rfl
  rw [bitcast_getLsbD x bitcasts_S8x128_w32_S32x128_w8 (ix2 p l) u hu (by decide)]
  have e1 : (p.val * 8 + u) / 32 = a.val := by omega
  have e2 : (p.val * 8 + u) % 32 = 8 * (p.val % 4) + u := by omega
  simp only [hr]
  rw [e2]
  congr 2
  funext c
  match c with
  | ⟨0, _⟩ => exact Fin.ext ((bitcasts_S8x128_w32_S32x128_w8.srcIdx_row _ _ _ ⟨0, Nat.zero_lt_two⟩ rfl).trans e1)
  | ⟨1, _⟩ => exact Fin.ext (bitcasts_S8x128_w32_S32x128_w8.srcIdx_other _ _ _ ⟨1, Nat.one_lt_two⟩ (by show ¬ 1 + 2 = 2; omega))

theorem sel_getLsbD (c : BitVec 32) (a b : IVec S8x128 32) (i : Fin 8) (l : Fin 128) (q : ℕ) (hq : q < 32) :
    (sel c a b (ix2 i l)).getLsbD q = if c.extractLsb' (8 * (q / 8)) 8 = 0#8 then (b (ix2 i l)).getLsbD q else (a (ix2 i l)).getLsbD q := by
  have hp : 4 * i.val + q / 8 < 32 := by have := i.isLt; omega
  refine (bitcast_8_32_getLsbD_ix2 (select (byteMask c) (bitcast S32x128 8 a bitcasts_S8x128_w32_S32x128_w8) (bitcast S32x128 8 b bitcasts_S8x128_w32_S32x128_w8))
    bitcasts_S32x128_w8_S8x128_w32 i l q hq ⟨4 * i.val + q / 8, hp⟩ rfl).trans ?_
  have hi : i.val = (⟨4 * i.val + q / 8, hp⟩ : Fin 32).val / 4 := by show i.val = (4 * i.val + q / 8) / 4; omega
  have hm : 8 * ((4 * i.val + q / 8) % 4) + q % 8 = q := by omega
  have hb : bitcast S32x128 8 (broadcast S8x128 c) bitcasts_S8x128_w32_S32x128_w8 (ix2 ⟨4 * i.val + q / 8, hp⟩ l) = c.extractLsb' (8 * (q / 8)) 8 := by
    refine BitVec.eq_of_getLsbD_eq fun u hu => ?_
    rw [bitcast_32_8_ix2 _ _ l u hu i hi, BitVec.getLsbD_extractLsb']
    show c.getLsbD (8 * ((4 * i.val + q / 8) % 4) + u) = _
    rw [show (4 * i.val + q / 8) % 4 = q / 8 by omega]
    simp [hu]
  show (Scalar.select (IntOp.cmpi .ne (bitcast S32x128 8 (broadcast S8x128 c) bitcasts_S8x128_w32_S32x128_w8 (ix2 ⟨4 * i.val + q / 8, hp⟩ l)) 0#8) _ _ : BitVec 8).getLsbD (q % 8) = _
  rw [hb]
  by_cases h : c.extractLsb' (8 * (q / 8)) 8 = 0#8
  · rw [if_pos h, h]
    show (bitcast S32x128 8 b bitcasts_S8x128_w32_S32x128_w8 (ix2 ⟨4 * i.val + q / 8, hp⟩ l)).getLsbD (q % 8) = _
    rw [bitcast_32_8_ix2 _ _ l _ (by omega) i hi]
    exact congrArg _ hm
  · rw [if_neg h]
    have : IntOp.cmpi .ne (c.extractLsb' (8 * (q / 8)) 8) 0#8 = 1#1 := by
      show BitVec.ofBool _ = 1#1
      rw [bne_iff_ne.mpr h]
      rfl
    rw [this]
    show (bitcast S32x128 8 a bitcasts_S8x128_w32_S32x128_w8 (ix2 ⟨4 * i.val + q / 8, hp⟩ l)).getLsbD (q % 8) = _
    rw [bitcast_32_8_ix2 _ _ l _ (by omega) i hi]
    exact congrArg _ hm

theorem bit_ne (c : BitVec 32) : IntOp.cmpi .ne (IntOp.andi c 1#32) 0#32 = IntOp.cmpi .eq (IntOp.andi c 1#32) 1#32 := by
  have h : IntOp.andi c 1#32 = 0#32 ∨ IntOp.andi c 1#32 = 1#32 := by
    have e : (IntOp.andi c 1#32).toNat = c.toNat % 2 := by
      simp [IntOp.andi, BitVec.toNat_and, Nat.and_one_is_mod]
    rcases Nat.mod_two_eq_zero_or_one c.toNat with h | h
    · exact Or.inl (BitVec.eq_of_toNat_eq (e.trans h))
    · exact Or.inr (BitVec.eq_of_toNat_eq (e.trans h))
  rcases h with h | h <;> rw [h] <;> rfl

/-- The widening of a byte is the six-bit float of its low bits. -/
theorem widen_apply (r : IVec S8x128 32) (p : Fin 32) (l : Fin 128) :
    widen (F := Ideal) r (ix2 p l) = fp6 (BitVec.setWidth 32 (bitcast S32x128 8 r bitcasts_S8x128_w32_S32x128_w8 (ix2 p l))) := by
  pointwise [widen]
  generalize BitVec.setWidth 32 (bitcast S32x128 8 r bitcasts_S8x128_w32_S32x128_w8 (ix2 p l)) = c
  rw [bit_ne, shrsi_unit _ _ (by decide), shrsi_unit _ _ (by decide), zero_sub]
  rfl

/-- The twelve bytes of a lane's group, as three words. -/
def tri (w0 w1 w2 : BitVec 32) (n : ℕ) : Bool :=
  (if n / 32 = 0 then w0 else if n / 32 = 1 then w1 else w2).getLsbD (n % 32)

/-- The four sets of words the unpacking makes. -/
def quarter (w0 w1 w2 : IVec S8x128 32) (j : ℕ) : IVec S8x128 32 :=
  match j with | 0 => r0 w0 w1 w2 | 1 => r2 w0 w1 w2 | 2 => r4 w0 w1 w2 | _ => r6 w0 w1 w2

theorem shru_apply (x : IVec S8x128 32) (n : BitVec 32) (i : Fin 8) (l : Fin 128) :
    (shrui x (broadcast S8x128 n)) (ix2 i l) = IntOp.shrui .vector (x (ix2 i l)) n := rfl

theorem shl_apply (x : IVec S8x128 32) (n : BitVec 32) (i : Fin 8) (l : Fin 128) :
    (shli x (broadcast S8x128 n)) (ix2 i l) = IntOp.shli .vector (x (ix2 i l)) n := rfl

theorem or_apply (x y : IVec S8x128 32) (i : Fin 8) (l : Fin 128) : (ori x y) (ix2 i l) = x (ix2 i l) ||| y (ix2 i l) := rfl

theorem quarter_getLsbD (w0 w1 w2 : IVec S8x128 32) (i : Fin 8) (l : Fin 128) (j k t : ℕ) (hj : j < 4) (hk : k < 4) (ht : t < 6) :
    (quarter w0 w1 w2 j (ix2 i l)).getLsbD (8 * k + t) = tri (w0 (ix2 i l)) (w1 (ix2 i l)) (w2 (ix2 i l)) (6 * slot j k + t) := by
  interval_cases j <;> interval_cases k <;> interval_cases t <;>
  · simp (discharger := decide) only [quarter, r0, r2, r4, r6, or_apply, shl_apply, shru_apply, BitVec.getLsbD_or, shrui_getLsbD, shli_getLsbD, sel_getLsbD, slot, tri]
    simp [BitVec.getLsbD_of_ge]

/-- The first byte row of group `i` is `12 i`: the words `w` of the group are byte rows `12 i + 4 w` to `12 i + 4 w + 3`. -/
theorem stored_getLsbD (x : Vec Ideal S1x1x32x128 .i8) (i : Fin 8) (l : Fin 128) (q : ℕ) (hq : q < 32) :
    (stored x (ix2 i l)).getLsbD q = BitVec.getLsbD (x (ix4 0 0 ⟨4 * i.val + q / 8, by have := i.isLt; omega⟩ l) : BitVec 8) (q % 8) := by
  have hp : 4 * i.val + q / 8 < 32 := by have := i.isLt; omega
  have e : stored x (ix2 i l) = bitcast S8x128 32 (shapeCast S32x128 x shapeCasts_S1x1x32x128_S32x128) bitcasts_S32x128_w8_S8x128_w32 (ix2 i l) := by
    pointwise [stored]
  rw [e]
  refine (bitcast_8_32_getLsbD_ix2 (shapeCast S32x128 x shapeCasts_S1x1x32x128_S32x128) bitcasts_S32x128_w8_S8x128_w32 i l q hq ⟨4 * i.val + q / 8, hp⟩ rfl).trans ?_
  refine congrArg (fun b : BitVec 8 => b.getLsbD (q % 8)) ?_
  pointwise []

variable (X : Vec Ideal S1x3x96x2048 .i8) (h : Fin 3)

/-- The 96 bytes of one position. -/
def column (t : ℕ) (n : ℕ) : BitVec 8 := X (ix4 0 h ⟨n % 96, Nat.mod_lt _ (by decide)⟩ ⟨t % 2048, Nat.mod_lt _ (by decide)⟩)

theorem wordRow_getLsbD (col : ℕ) (w : ℕ) (hw : w < 3) (i : Fin 8) (l : Fin 128) (q : ℕ) (hq : q < 32) :
    (wordRow (stored (bytes X h 0 col)) (stored (bytes X h 1 col)) (stored (bytes X h 2 col)) w (ix2 i l)).getLsbD q
      = (column X h (col + l.val) (12 * i.val + 4 * w + q / 8)).getLsbD (q % 8) := by
  have hi := i.isLt
  have hl := l.isLt
  show (if 3 * i.val + w < 8 then stored (bytes X h 0 col) (ix2 ⟨(3 * i.val + w) % 8, Nat.mod_lt _ (by decide)⟩ l) else
    if 3 * i.val + w < 16 then stored (bytes X h 1 col) (ix2 ⟨(3 * i.val + w) % 8, Nat.mod_lt _ (by decide)⟩ l)
    else stored (bytes X h 2 col) (ix2 ⟨(3 * i.val + w) % 8, Nat.mod_lt _ (by decide)⟩ l)).getLsbD q = _
  have m0 : ∀ m, m < 8 → m % 8 = m := fun m h => by omega
  have m1 : ∀ m, 8 ≤ m → m < 16 → m % 8 = m - 8 := fun m h h' => by omega
  have m2 : ∀ m, 16 ≤ m → m < 24 → m % 8 = m - 16 := fun m h h' => by omega
  split_ifs with c1 c2 <;>
  · rw [stored_getLsbD _ _ _ q hq]
    unfold bytes column
    congr 2
    congr 1
    apply Fin.ext
    have hu : q / 8 < 4 := by omega
    dsimp only [ix4]
    generalize q / 8 = u at hu ⊢
    first
      | rw [m0 _ c1]; try dsimp only
        omega
      | rw [m1 _ (by omega) c2]; try dsimp only
        omega
      | rw [m2 _ (by omega) (by omega)]; try dsimp only
        omega

/-- A tile's element at `x`, lane `l`, is element `pos x` of the row at position `col + l`. -/
theorem tile_apply (col : ℕ) (x l : Fin 128) :
    tile (F := Ideal) (bytes X h 0 col) (bytes X h 1 col) (bytes X h 2 col) (ix2 x l) = fp6 (code (column X h (col + l.val)) (pos x.val)) := by
  have hx := x.isLt
  generalize hw : (fun w => wordRow (stored (bytes X h 0 col)) (stored (bytes X h 1 col)) (stored (bytes X h 2 col)) w) = W
  have hW : ∀ w < 3, ∀ i : Fin 8, ∀ q < 32, (W w (ix2 i l)).getLsbD q = (column X h (col + l.val) (12 * i.val + 4 * w + q / 8)).getLsbD (q % 8) := by
    subst hw
    intro w hw i q hq
    exact wordRow_getLsbD X h col w hw i l q hq
  have e : tile (F := Ideal) (bytes X h 0 col) (bytes X h 1 col) (bytes X h 2 col) (ix2 x l)
      = widen (F := Ideal) (quarter (W 0) (W 1) (W 2) (x.val / 32)) (ix2 ⟨x.val % 32, Nat.mod_lt _ (by decide)⟩ l) := by
    subst hw
    pointwise [tile, unpack]
    by_cases c0 : x.val < 32
    · rw [dif_pos c0]
      have e : x.val / 32 = 0 := by omega
      rw [e]
      exact congrArg _ (congrArg (fun a => ix2 a l) (Fin.ext (by show x.val = x.val % 32; omega)))
    rw [dif_neg c0]
    by_cases c1 : x.val - 32 < 32
    · rw [dif_pos c1]
      have e : x.val / 32 = 1 := by omega
      rw [e]
      exact congrArg _ (congrArg (fun a => ix2 a l) (Fin.ext (by show x.val - 32 = x.val % 32; omega)))
    rw [dif_neg c1]
    by_cases c2 : x.val - 32 - 32 < 32
    · rw [dif_pos c2]
      have e : x.val / 32 = 2 := by omega
      rw [e]
      exact congrArg _ (congrArg (fun a => ix2 a l) (Fin.ext (by show x.val - 32 - 32 = x.val % 32; omega)))
    rw [dif_neg c2]
    have e : x.val / 32 = 3 := by omega
    rw [e]
    exact congrArg _ (congrArg (fun a => ix2 a l) (Fin.ext (by show x.val - 32 - 32 - 32 = x.val % 32; omega)))
  rw [e, widen_apply]
  refine fp6_congr _ _ fun t ht => ?_
  rw [BitVec.getLsbD_setWidth, bitcast_32_8_ix2 _ _ l t (by omega) ⟨x.val % 32 / 4, by omega⟩ rfl]
  have hk : x.val % 32 % 4 = x.val % 4 := by omega
  show (decide (t < 32) && (quarter _ _ _ _ _).getLsbD (8 * (x.val % 32 % 4) + t)) = _
  rw [hk, quarter_getLsbD _ _ _ _ _ _ _ _ (by omega) (by omega) ht, code_getLsbD _ _ _ ht]
  have hs : slot (x.val / 32) (x.val % 4) < 16 := by
    have h1 : x.val / 32 < 4 := by omega
    have h2 : x.val % 4 < 4 := by omega
    generalize x.val / 32 = a at h1 ⊢
    generalize x.val % 4 = b at h2 ⊢
    interval_cases a <;> interval_cases b <;> decide
  unfold pos
  generalize slot (x.val / 32) (x.val % 4) = g at hs ⊢
  unfold tri
  have : decide (t < 32) = true := by simp; omega
  rw [this, Bool.true_and]
  split_ifs with c0 c1
  · rw [hW 0 (by decide) _ _ (Nat.mod_lt _ (by decide))]
    refine congrArg₂ BitVec.getLsbD (congrArg _ ?_) ?_ <;> (try dsimp only) <;> omega
  · rw [hW 1 (by decide) _ _ (Nat.mod_lt _ (by decide))]
    refine congrArg₂ BitVec.getLsbD (congrArg _ ?_) ?_ <;> (try dsimp only) <;> omega
  · rw [hW 2 (by decide) _ _ (Nat.mod_lt _ (by decide))]
    refine congrArg₂ BitVec.getLsbD (congrArg _ ?_) ?_ <;> (try dsimp only) <;> omega

/-- A chunk's element at `x`, position `t`. -/
theorem chunk_apply (k : ℕ) (x : Fin 128) (t : Fin 256) :
    chunk (F := Ideal) X h k (ix2 x t) = fp6 (code (column X h (256 * k + t.val)) (pos x.val)) := by
  have ht := t.isLt
  pointwise [chunk, pair]
  by_cases c : t.val < 128
  · rw [dif_pos c]
    exact tile_apply X h (256 * k) x ⟨t.val, c⟩
  · rw [dif_neg c]
    refine (tile_apply X h (256 * k + 128) x ⟨t.val - 128, by omega⟩).trans ?_
    congr 3
    show 256 * k + 128 + (t.val - 128) = _
    omega

end Cert.KernelIdeal.Clean

end
-- ==== Proof.KernelIdeal.Perm.lean ====
module

public import proofs.«01_k».proof.Proof.KernelIdeal.Codes
public import proofs.«01_k».proof.Proof.KernelIdeal.Out

@[expose] public section

set_option maxRecDepth 16384

noncomputable section

/-! The unpacking's order is a permutation of the 128 elements of a row, and the constant matrix is its matrix. -/

namespace Cert.KernelIdeal.Clean

open Cert.KernelIdeal Cert.KernelIdeal.Gen
open Idealize.ShloMosaic Idealize.ShloMosaic.TcCoe Idealize.ShloMosaic.Tactic

theorem pos_lt (x : Fin 128) : pos x.val < 128 := by revert x; decide +kernel

def posF (x : Fin 128) : Fin 128 := ⟨pos x.val, pos_lt x⟩

theorem posF_injective : Function.Injective posF := by
  have h : ∀ x y : Fin 128, posF x = posF y → x = y := by decide +kernel
  exact fun x y e => h x y e

/-- The permutation of the unpacking. -/
def perm : Fin 128 ≃ Fin 128 := Equiv.ofBijective posF (Finite.injective_iff_bijective.mp posF_injective)

theorem pos_div (x : Fin 128) : pos x.val / 32 = x.val % 32 / 8 := by revert x; decide +kernel

theorem lit0_eq (y x : Fin 128) : lit0 ⟨128 * y.val + x.val, by omega⟩ = if y = posF x then 0x3F80#16 else 0x0000#16 := by
  revert x
  revert y
  decide +kernel

/-- The kernel's mask of the blocks keeps the rows of a block where the block's elements are. -/
theorem diag_apply (r : Fin 32) (x : Fin 128) : diag (ix2 r x) = if r.val / 8 = x.val % 32 / 8 then 1#1 else 0#1 := by
  have h : ∀ r : Fin 32, ∀ x : Fin 128, diag (ix2 r x) = if r.val / 8 = x.val % 32 / 8 then 1#1 else 0#1 := by decide +kernel
  exact h r x

end Cert.KernelIdeal.Clean

end
-- ==== Proof.KernelIdeal.Score.lean ====
module

public import proofs.«01_k».proof.Proof.KernelIdeal.Perm

@[expose] public section

set_option maxRecDepth 16384

noncomputable section

/-! The kernel's scores are the sums over the row's elements in their own order. -/

namespace Cert.Math

open Idealize.ShloMosaic

/-- One score: the query's elements against the scaled elements of a packed row. -/
def score (B S : ℕ → BitVec 8) (q : ℕ → EReal) : EReal :=
  (∑ d : Fin 128, fp6 (code B d.val) * scale (S (d.val / 32)) * q d.val) * Ideal.ofBits .f32 0x3DB504F3#32

end Cert.Math

namespace Cert.KernelIdeal.Clean

open Cert.KernelIdeal Cert.KernelIdeal.Gen
open Idealize.ShloMosaic Idealize.ShloMosaic.TcCoe Idealize.ShloMosaic.Tactic
open Cert.Math

attribute [local irreducible] diag

/-- The constant operand is the matrix of the unpacking's order. -/
def IsPerm (x1 : Vec Ideal S128x128 .bf16) : Prop :=
  ∀ y x : Fin 128, (x1 (ix2 y x) : EReal) = if y = posF x then 1 else 0

theorem query_apply (x1 : Vec Ideal S128x128 .bf16) (hP : IsPerm x1) (x : Vec Ideal S1x8x128 .bf16) (r : Fin 32) (t : Fin 128) (s : Fin 8) (hs : s.val = r.val % 8) :
    (query x1 x (ix2 r t) : EReal) = if r.val / 8 = pos t.val / 32 then x (ix3 0 s (posF t)) else 0 := by
  have hr := r.isLt
  have hsum : ∀ a : Fin 8, a = s → (∑ y : Fin 128, (x (ix3 0 a y) : EReal) * x1 (ix2 y t) : EReal) = x (ix3 0 s (posF t)) := by
    rintro a rfl
    rw [Finset.sum_eq_single (posF t)]
    · rw [hP, if_pos rfl, mul_one]
    · intro y _ hy
      rw [hP, if_neg hy, mul_zero]
    · intro h
      exact absurd (Finset.mem_univ _) h
  pointwise [query, k0_pay409]
  rw [diag_apply, pos_div]
  split_ifs <;> first
    | exact hsum _ (Fin.ext (by dsimp only; omega))
    | rfl
    | omega

theorem scales_apply (s : Vec Ideal S1x1x4x256 .i8) (g : Fin 4) (t : Fin 256)
    (h1 : 1 ≤ (s (ix4 0 0 g t) : BitVec 8).toNat) (h2 : (s (ix4 0 0 g t) : BitVec 8).toNat ≤ 254) :
    (scales (F := Ideal) s (ix2 g t) : EReal) = scale (s (ix4 0 0 g t)) := by
  have e : (scales (F := Ideal) s (ix2 g t) : EReal) = Ideal.ofBits .f32 (IntOp.shli .vector (BitVec.setWidth 32 (s (ix4 0 0 g t))) 23#32) := by
    pointwise [scales]
  rw [e, ofBits_shli _ h1 h2]

/-- Every scale byte names a power of two. -/
def Finite4 (S : Vec Ideal S1x3x4x2048 .i8) : Prop := ∀ j, 1 ≤ (S j : BitVec 8).toNat ∧ (S j : BitVec 8).toNat ≤ 254

/-- The four scale bytes of one position. -/
def scaleColumn (S : Vec Ideal S1x3x4x2048 .i8) (h : Fin 3) (t : ℕ) (g : ℕ) : BitVec 8 :=
  S (ix4 0 h ⟨g % 4, Nat.mod_lt _ (by decide)⟩ ⟨t % 2048, Nat.mod_lt _ (by decide)⟩)

theorem scaleBytes_apply (S : Vec Ideal S1x3x4x2048 .i8) (hS : Finite4 S) (h : Fin 3) (k : ℕ) (g : Fin 4) (t : Fin 256) :
    (scales (F := Ideal) (scaleBytes S h k) (ix2 g t) : EReal) = scale (scaleColumn S h (256 * k + t.val) g.val) := by
  have e : (scaleBytes S h k (ix4 0 0 g t) : BitVec 8) = scaleColumn S h (256 * k + t.val) g.val := by
    unfold scaleBytes scaleColumn
    have : (⟨g.val % 4, Nat.mod_lt _ (by decide)⟩ : Fin 4) = g := Fin.ext (Nat.mod_eq_of_lt g.isLt)
    rw [this]
    rfl
  rw [scales_apply _ _ _ (hS _).1 (hS _).2, e]

/-- Four blocks of rows of sums, each kept where its block's elements are, are one sum. -/
theorem sum_blocks (q K : Fin 128 → EReal) (sc : ℕ → EReal) (h0 : ∀ g, 0 ≤ sc g) (ht : ∀ g, sc g ≠ ⊤) (b : Fin 128 → ℕ) (hb : ∀ x, b x < 4) :
    (∑ x, (if 0 = b x then q x else 0) * K x) * sc 0 + (∑ x, (if 1 = b x then q x else 0) * K x) * sc 1
      + (∑ x, (if 2 = b x then q x else 0) * K x) * sc 2 + (∑ x, (if 3 = b x then q x else 0) * K x) * sc 3
      = ∑ x, K x * sc (b x) * q x := by
  rw [sum_mul _ _ _ (h0 _) (ht _), sum_mul _ _ _ (h0 _) (ht _), sum_mul _ _ _ (h0 _) (ht _), sum_mul _ _ _ (h0 _) (ht _),
    ← Finset.sum_add_distrib, ← Finset.sum_add_distrib, ← Finset.sum_add_distrib]
  refine Finset.sum_congr rfl fun x _ => ?_
  have := hb x
  generalize b x = c at this ⊢
  interval_cases c <;> simp [mul_assoc, mul_comm, mul_left_comm]

theorem rowsOf_apply (x0 : Vec Ideal S1x24x128 .bf16) (h : Fin 3) (s : Fin 8) (d : Fin 128) :
    (rowsOf x0 h (ix3 0 s d) : EReal) = x0 (ix3 0 ⟨(8 * h.val + s.val) % 24, Nat.mod_lt _ (by decide)⟩ ⟨d.val % 128, Nat.mod_lt _ (by decide)⟩) := by
  have e : (⟨d.val % 128, Nat.mod_lt _ (by decide)⟩ : Fin 128) = d := Fin.ext (Nat.mod_eq_of_lt d.isLt)
  rw [e]
  rfl

theorem posF_val (x : Fin 128) : (posF x).val = pos x.val := rfl

theorem perm_eq (x : Fin 128) : perm x = posF x := rfl

attribute [local irreducible] query rowsOf chunk scales column scaleColumn code fp6 pos posF scale

theorem scores_apply (x0 : Vec Ideal S1x24x128 .bf16) (x1 : Vec Ideal S128x128 .bf16) (x2 : Vec Ideal S1x3x96x2048 .i8) (x4 : Vec Ideal S1x3x4x2048 .i8)
    (hP : IsPerm x1) (hS : Finite4 x4) (h : Fin 3) (k : ℕ) (s : Fin 8) (t : Fin 256) :
    (headScores x0 x1 x2 x4 h k (ix2 s t) : EReal)
      = score (column x2 h (256 * k + t.val)) (scaleColumn x4 h (256 * k + t.val))
          (fun d => x0 (ix3 0 ⟨(8 * h.val + s.val) % 24, Nat.mod_lt _ (by decide)⟩ ⟨d % 128, Nat.mod_lt _ (by decide)⟩)) := by
  have hs := s.isLt
  generalize hq : query x1 (rowsOf x0 h) = Q
  have hQ : ∀ (r : Fin 32) (x : Fin 128), r.val % 8 = s.val → (Q (ix2 r x) : EReal) = if r.val / 8 = pos x.val / 32 then rowsOf x0 h (ix3 0 s (posF x)) else 0 := by
    intro r x hr
    rw [← hq]
    exact query_apply x1 hP _ r x s hr.symm
  unfold headScores
  rw [hq]
  pointwise [scores]
  rw [scaleBytes_apply x4 hS, scaleBytes_apply x4 hS, scaleBytes_apply x4 hS, scaleBytes_apply x4 hS]
  unfold score
  refine congrArg (· * _) ?_
  refine Eq.trans ?_ (perm.sum_comp (fun d : Fin 128 => fp6 (code (column x2 h (256 * k + t.val)) d.val) * scale (scaleColumn x4 h (256 * k + t.val) (d.val / 32))
    * (x0 (ix3 0 ⟨(8 * h.val + s.val) % 24, Nat.mod_lt _ (by decide)⟩ ⟨d.val % 128, Nat.mod_lt _ (by decide)⟩) : EReal)))
  simp only [← rowsOf_apply, perm_eq]
  simp only [posF_val]
  refine Eq.trans ?_ (sum_blocks (fun x => rowsOf x0 h (ix3 0 s (posF x))) (fun x => fp6 (code (column x2 h (256 * k + t.val)) (pos x.val)))
    (fun g => scale (scaleColumn x4 h (256 * k + t.val) g)) (fun _ => scale_nonneg _) (fun _ => scale_ne_top _) (fun x => pos x.val / 32)
    (fun x => by have := pos_lt x; omega))
  have hsum : ∀ (g : ℕ) (hg : g < 4) (r : Fin 32), r.val = 8 * g + s.val →
      (∑ x : Fin 128, (Q (ix2 r x) : EReal) * chunk (F := Ideal) x2 h k (ix2 x t) : EReal)
        = ∑ x : Fin 128, (if g = pos x.val / 32 then (rowsOf x0 h (ix3 0 s (posF x)) : EReal) else 0) * fp6 (code (column x2 h (256 * k + t.val)) (pos x.val)) := by
    intro g hg r hr
    refine Finset.sum_congr rfl fun x _ => ?_
    rw [hQ r x (by omega), chunk_apply, show r.val / 8 = g by omega]
  exact congrArg₂ (· + ·) (congrArg₂ (· + ·) (congrArg₂ (· + ·)
    (congrArg (· * _) (hsum 0 (by decide) _ (by dsimp only; omega))) (congrArg (· * _) (hsum 1 (by decide) _ rfl)))
    (congrArg (· * _) (hsum 2 (by decide) _ rfl))) (congrArg (· * _) (hsum 3 (by decide) _ rfl))

end Cert.KernelIdeal.Clean

end
-- ==== Proof.Math.Softmax.lean ====
module

public import Idealize.ShloMosaic.Lib.Pointwise
public import Idealize.ShloMosaic.Lib.IdealHost

@[expose] public section

set_option maxRecDepth 16384

noncomputable section

/-! A row of 2048 logits, its weights and a weighted sum. -/

namespace Cert.Math

open Idealize.ShloMosaic

/-- The largest logit. -/
def top (z : Fin 2048 → EReal) : EReal := Finset.univ.sup z

/-- The weight of position `t`. -/
def weight (z : Fin 2048 → EReal) (t : Fin 2048) : EReal :=
  Ideal.div (Ideal.exp (z t - top z)) (∑ x, Ideal.exp (z x - top z))

/-- The weighted sum of `v`. -/
def attend (z v : Fin 2048 → EReal) : EReal := ∑ t, v t * weight z t

theorem neg_inf : Ideal.ofBits .f32 0xFF800000#32 = ⊥ := by
  show Ideal.ieee 8 23 0xFF800000#32 = _
  simp [Ideal.ieee]

end Cert.Math

end
-- ==== Proof.KernelIdeal.Soft.lean ====
module

public import proofs.«01_k».proof.Proof.KernelIdeal.Score
public import proofs.«01_k».proof.Proof.Math.Softmax

@[expose] public section

set_option maxRecDepth 16384

noncomputable section

/-! The kernel's two results: the scores below a row's length, and the weighted sums of the values. -/

namespace Cert.KernelIdeal.Clean

open Cert.KernelIdeal Cert.KernelIdeal.Gen
open Idealize.ShloMosaic Idealize.ShloMosaic.TcCoe Idealize.ShloMosaic.Tactic
open Cert.Math

theorem position_eq (k t : ℕ) : IntOp.addi (Scalar.muli (Scf.iv 0#32 1#32 k) 256#32) (BitVec.ofNat 32 t) = BitVec.ofNat 32 (256 * k + t) := by
  show (0#32 + BitVec.ofNat 32 k * 1#32) * 256#32 + BitVec.ofNat 32 t = _
  apply BitVec.eq_of_toNat_eq
  simp [BitVec.toNat_add, BitVec.toNat_mul, Nat.add_mod, Nat.mul_mod, Nat.mul_comm]

/-- Position `t` is below the length `n`. -/
def below (n : BitVec 32) (t : ℕ) : BitVec 1 := IntOp.cmpi .slt (BitVec.ofNat 32 t) n

theorem masked_apply (n : BitVec 32) (k : ℕ) (s : FVec Ideal S8x256 .f32) (a : Fin 8) (t : Fin 256) :
    (masked n k s (ix2 a t) : EReal) = Scalar.select (below n (256 * k + t.val)) (s (ix2 a t)) (⊥ : EReal) := by
  unfold below
  rw [← position_eq]
  have e : (Named.named κ "mask" 0xF149F2CA#32 : Ideal .f32) = (⊥ : EReal) := IdealRules.named_const.ideal_named_scalar _ _ _ _ rfl
  rw [← e]
  pointwise [masked, valid]

theorem zeroed_apply (n : BitVec 32) (k : ℕ) (s : FVec Ideal S8x256 .f32) (a : Fin 8) (t : Fin 256) :
    (zeroed n k s (ix3 0 a t) : EReal) = Scalar.select (below n (256 * k + t.val)) (s (ix2 a t)) (0 : EReal) := by
  unfold below
  rw [← position_eq]
  pointwise [zeroed, valid]

variable (n : BitVec 32) (x0 : Vec Ideal S1x24x128 .bf16) (x1 : Vec Ideal S128x128 .bf16) (x2 x3 : Vec Ideal S1x3x96x2048 .i8)
  (x4 x5 : Vec Ideal S1x3x4x2048 .i8) (h : Fin 3)

/-- The score of row `s` of head `h` at position `t`. -/
def rowScore (s : Fin 8) (t : ℕ) : EReal :=
  score (column x2 h t) (scaleColumn x4 h t) (fun d => x0 (ix3 0 ⟨(8 * h.val + s.val) % 24, Nat.mod_lt _ (by decide)⟩ ⟨d % 128, Nat.mod_lt _ (by decide)⟩))

/-- The same, at positions past the length the lowest value. -/
def logit (s : Fin 8) (t : ℕ) : EReal := Scalar.select (below n t) (rowScore x0 x2 x4 h s t) (⊥ : EReal)

section
variable (hP : IsPerm x1) (hS : Finite4 x4)
include hP hS

theorem masked_logit (k : ℕ) (s : Fin 8) (t : Fin 256) :
    (masked n k (headScores x0 x1 x2 x4 h k) (ix2 s t) : EReal) = logit n x0 x2 x4 h s (256 * k + t.val) := by
  rw [masked_apply, scores_apply x0 x1 x2 x4 hP hS]
  rfl

theorem headMasked_apply (s : Fin 8) (t : Fin 2048) : (headMasked n x0 x1 x2 x4 h (ix2 s t) : EReal) = logit n x0 x2 x4 h s t.val := by
  refine (masked_logit n x0 x1 x2 x4 h hP hS (t.val / 256) s ⟨t.val % 256, Nat.mod_lt _ (by decide)⟩).trans ?_
  exact congrArg _ (by dsimp only; omega)

attribute [local irreducible] masked headScores logit

theorem rowMax_apply (a : FVec Ideal S8x1 .f32) (z : FVec Ideal S8x256 .f32) (s : Fin 8) :
    (rowMax a z (ix2 s 0) : EReal) = max (a (ix2 s 0)) (Finset.fold max (⊥ : EReal) (fun x : Fin 256 => (z (ix2 s x) : EReal)) Finset.univ) := by
  rw [← neg_inf]
  pointwise [rowMax]

theorem headMax_apply (s : Fin 8) : (headMax n x0 x1 x2 x4 h (ix2 s 0) : EReal) = top fun t => logit n x0 x2 x4 h s t.val := by
  have key : ∀ (m : ℕ) (c : EReal), (fold (k0_pay410 (F := Ideal)) (fun k a => rowMax a (masked n k (headScores x0 x1 x2 x4 h k))) m (ix2 s 0) : EReal) ≤ c
      ↔ ∀ i < 256 * m, logit n x0 x2 x4 h s i ≤ c := by
    intro m
    induction m with
    | zero =>
      intro c
      have e : (k0_pay410 (F := Ideal) (ix2 s 0) : EReal) = ⊥ := by
        have e : (Named.named κ "mask" 0xF149F2CA#32 : Ideal .f32) = (⊥ : EReal) := IdealRules.named_const.ideal_named_scalar _ _ _ _ rfl
        rw [← e]
        rfl
      constructor
      · intro _ i hi
        omega
      · intro _
        show (k0_pay410 (F := Ideal) (ix2 s 0) : EReal) ≤ c
        rw [e]
        exact bot_le
    | succ m ih =>
      intro c
      show (rowMax (fold (k0_pay410 (F := Ideal)) (fun k a => rowMax a (masked n k (headScores x0 x1 x2 x4 h k))) m) (masked n m (headScores x0 x1 x2 x4 h m)) (ix2 s 0) : EReal) ≤ c ↔ _
      rw [rowMax_apply x1 x4 hP hS, max_le_iff, ih, Finset.fold_max_le]
      simp only [masked_logit n x0 x1 x2 x4 h hP hS]
      constructor
      · rintro ⟨h1, -, h2⟩ i hi
        by_cases hm : i < 256 * m
        · exact h1 i hm
        · have := h2 ⟨i - 256 * m, by omega⟩ (Finset.mem_univ _)
          rwa [show 256 * m + (i - 256 * m) = i by omega] at this
      · intro hh
        exact ⟨fun i hi => hh i (by omega), bot_le, fun x _ => hh _ (by have := x.isLt; omega)⟩
  refine eq_of_forall_ge_iff fun c => ?_
  refine (key 8 c).trans ?_
  unfold top
  rw [Finset.sup_le_iff]
  exact ⟨fun hh t _ => hh t.val t.isLt, fun hh i hi => hh ⟨i, hi⟩ (Finset.mem_univ _)⟩

theorem headWeights_apply (s : Fin 8) (t : Fin 2048) :
    (headWeights n x0 x1 x2 x4 h (ix2 s t) : EReal) = weight (fun t => logit n x0 x2 x4 h s t.val) t := by
  unfold headWeights
  have e : ∀ (a : FVec Ideal S8x1 .f32) (z : FVec Ideal S8x2048 .f32), (k0_pay412 a z (ix2 s t) : EReal)
      = Ideal.div (Ideal.exp ((z (ix2 s t) : EReal) - a (ix2 s 0))) (∑ x : Fin 2048, Ideal.exp ((z (ix2 s x) : EReal) - a (ix2 s 0))) := by
    intro a z
    pointwise [k0_pay412]
  rw [e, headMax_apply n x0 x1 x2 x4 h hP hS]
  simp only [headMasked_apply n x0 x1 x2 x4 h hP hS]
  rfl

variable (hS' : Finite4 x5)
include hS'

/-- One term of a weighted sum. -/
def term (s : Fin 8) (x : Fin 128) (i : ℕ) : EReal :=
  weight (fun t => logit n x0 x2 x4 h s t.val) ⟨i % 2048, Nat.mod_lt _ (by decide)⟩ * scale (scaleColumn x5 h i (pos x.val / 32)) * fp6 (code (column x3 h i) (pos x.val))

attribute [local irreducible] scales chunk scaleBytes

theorem weigh_apply (a : FVec Ideal S32x128 .f32) (v : FVec Ideal S128x256 .fp8e4m3) (p : Vec Ideal S8x256 .f32) (sb : Vec Ideal S1x1x4x256 .i8)
    (r : Fin 32) (x : Fin 128) (g : Fin 4) (s : Fin 8) (hr : r.val = 8 * g.val + s.val) :
    (weigh a v p sb (ix2 r x) : EReal) = a (ix2 r x) + ∑ t : Fin 256, (p (ix2 s t) : EReal) * scales (F := Ideal) sb (ix2 g t) * v (ix2 x t) := by
  have hs := s.isLt
  have hg : ∀ (g' : Fin 4) (s' : Fin 8) (t : Fin 256), g' = g → s' = s → (p (ix2 s' t) : EReal) * scales (F := Ideal) sb (ix2 g' t) = (p (ix2 s t) : EReal) * scales (F := Ideal) sb (ix2 g t) := by
    rintro _ _ t rfl rfl
    rfl
  pointwise [weigh]
  refine congrArg _ (Finset.sum_congr rfl fun t _ => congrArg (· * _) ?_)
  split_ifs <;> exact hg _ _ t (Fin.ext (by first | (show 0 = _; omega) | (show 1 = _; omega) | (show 2 = _; omega) | (show 3 = _; omega))) (Fin.ext (by dsimp only; omega))

theorem headAcc_apply (r : Fin 32) (x : Fin 128) (s : Fin 8) (hr : r.val = 8 * (pos x.val / 32) + s.val) :
    (headAcc n x0 x1 x2 x3 x4 x5 h (ix2 r x) : EReal) = ∑ t : Fin 2048, term n x0 x2 x3 x4 x5 h s x t.val := by
  have hx := pos_lt x
  have key : ∀ m : ℕ, m ≤ 8 → (fold (k0_pay413 (F := Ideal)) (fun k a => weigh a (chunk x3 h k) (columns (headWeights n x0 x1 x2 x4 h) k) (scaleBytes x5 h k)) m (ix2 r x) : EReal)
      = ∑ i ∈ Finset.range (256 * m), term n x0 x2 x3 x4 x5 h s x i := by
    intro m hm
    induction m with
    | zero =>
      show (k0_pay413 (F := Ideal) (ix2 r x) : EReal) = _
      rw [Nat.mul_zero, Finset.range_zero, Finset.sum_empty]
      exact Ideal.ofBits_zero_f32
    | succ m ih =>
      show (weigh (fold (k0_pay413 (F := Ideal)) (fun k a => weigh a (chunk x3 h k) (columns (headWeights n x0 x1 x2 x4 h) k) (scaleBytes x5 h k)) m)
        (chunk x3 h m) (columns (headWeights n x0 x1 x2 x4 h) m) (scaleBytes x5 h m) (ix2 r x) : EReal) = _
      rw [weigh_apply x1 x4 x5 hP hS hS' _ _ _ _ r x ⟨pos x.val / 32, by omega⟩ s hr, ih (by omega), Nat.mul_succ, Finset.sum_range_add]
      refine congrArg _ (Eq.trans (Finset.sum_congr rfl fun t _ => ?_) (Finset.sum_range _).symm)
      rw [scaleBytes_apply x5 hS', chunk_apply]
      refine congrArg (· * _) (congrArg (· * _) ?_)
      exact headWeights_apply n x0 x1 x2 x4 h hP hS s ⟨(256 * m + t.val) % 2048, Nat.mod_lt _ (by decide)⟩
  refine (key 8 le_rfl).trans ?_
  exact Finset.sum_range _

attribute [local irreducible] diag headAcc

omit hP hS hS' in
theorem four (g : ℕ) (A : EReal) (hg : g < 4) :
    (if 0 = g then A else 0) + (if 1 = g then A else 0) + (if 2 = g then A else 0) + (if 3 = g then A else 0) = A := by
  interval_cases g <;> simp

theorem headOut_apply (s : Fin 8) (y : Fin 128) :
    (headOut n x0 x1 x2 x3 x4 x5 h (ix3 0 s y) : EReal)
      = attend (fun t => logit n x0 x2 x4 h s t.val) (fun t => fp6 (code (column x3 h t.val) y.val) * scale (scaleColumn x5 h t.val (y.val / 32))) := by
  have hs := s.isLt
  obtain ⟨x, rfl⟩ : ∃ x, posF x = y := ⟨perm.symm y, perm.apply_symm_apply y⟩
  have hx := pos_lt x
  have hsel : ∀ (a : FVec Ideal S32x128 .f32) (r : Fin 32) (g : ℕ), r.val = 8 * g + s.val →
      (Scalar.select (if r.val / 8 = pos x.val / 32 then 1#1 else 0#1) (a (ix2 r x) : EReal) 0 : EReal)
        = if g = pos x.val / 32 then (a (ix2 ⟨8 * (pos x.val / 32) + s.val, by omega⟩ x) : EReal) else 0 := by
    intro a r g hr
    by_cases c : g = pos x.val / 32
    · rw [if_pos c, if_pos (by omega)]
      have hr' : r = ⟨8 * (pos x.val / 32) + s.val, by omega⟩ := Fin.ext (by dsimp only; omega)
      rw [hr']
      rfl
    · rw [if_neg c, if_neg (by omega)]
      rfl
  have e : ∀ a : FVec Ideal S32x128 .f32, (k0_pay415 x1 diag a (ix3 0 s (posF x)) : EReal) = a (ix2 ⟨8 * (pos x.val / 32) + s.val, by omega⟩ x) := by
    intro a
    pointwise [k0_pay415]
    rw [Finset.sum_eq_single x]
    · rw [hP, if_pos rfl, mul_one, diag_apply, diag_apply, diag_apply, diag_apply, ← pos_div]
      exact (congrArg₂ (· + ·) (congrArg₂ (· + ·) (congrArg₂ (· + ·) (hsel a _ 0 (by dsimp only; omega)) (hsel a _ 1 rfl)) (hsel a _ 2 rfl)) (hsel a _ 3 rfl)).trans (four _ _ (by omega))
    · intro x' _ hx'
      rw [hP, if_neg (fun hh => hx' (posF_injective hh).symm), mul_zero]
    · intro hh
      exact absurd (Finset.mem_univ _) hh
  unfold headOut
  rw [e, headAcc_apply n x0 x1 x2 x3 x4 x5 h hP hS hS' _ x s rfl]
  unfold attend
  refine Finset.sum_congr rfl fun t _ => ?_
  unfold term
  have ht : (⟨t.val % 2048, Nat.mod_lt _ (by decide)⟩ : Fin 2048) = t := Fin.ext (Nat.mod_eq_of_lt t.isLt)
  rw [ht]
  show _ = fp6 (code (column x3 h t.val) (pos x.val)) * scale (scaleColumn x5 h t.val (pos x.val / 32)) * _
  rw [mul_comm, ← mul_assoc, mul_right_comm, mul_assoc]

end

end Cert.KernelIdeal.Clean

end
-- ==== Proof.KernelIdeal.Blocks.lean ====
module

public import proofs.«01_k».proof.Proof.KernelIdeal.FrameV
public import proofs.«01_k».proof.Proof.KernelIdeal.Soft

@[expose] public section

set_option maxRecDepth 16384

noncomputable section

/-! What the body is handed at each grid point, entry by entry, in terms of the argument arrays. -/

namespace Cert.KernelIdeal.Run

open Cert.KernelIdeal Cert.KernelIdeal.Gen
open Idealize.ShloMosaic Idealize.ShloMosaic.TcCoe Idealize.ShloMosaic.Tactic

variable (m : (ℓ : Loc nD τ sig) → Buf (Elt Ideal) ℓ)

/-! ## The arrays the host lines leave -/

theorem V_cst (c : Dev nD) : V m c main_cst = fun i : S128x128.Idx => FloatOps.ofBits (F := Ideal) .bf16 (lit0 (S128x128.rowMajor i)) := by
  unfold_abbrev_sides
  after_results
  try rfl

theorem V_v0 (c : Dev nD) : V m c main_v0
    = shapeCast S72x24x128 (m ((c.tc : Thread nD τ).loc main_arg0)) shapeCasts_S72x1x3072_S72x24x128 := by
  unfold_abbrev_sides
  after_results
  try rfl

theorem V_v1 (c : Dev nD) : V m c main_v1
    = transpose S72x3x96x2048 [0, 1, 3, 2] (m ((c.tc : Thread nD τ).loc main_arg1)) transposes_S72x3x2048x96_S72x3x96x2048_0_1_3_2 := by
  unfold_abbrev_sides
  after_results
  try rfl

theorem V_v2 (c : Dev nD) : V m c main_v2
    = transpose S72x3x96x2048 [0, 1, 3, 2] (m ((c.tc : Thread nD τ).loc main_arg2)) transposes_S72x3x2048x96_S72x3x96x2048_0_1_3_2 := by
  unfold_abbrev_sides
  after_results
  try rfl

theorem V_v3 (c : Dev nD) : V m c main_v3
    = transpose S72x3x4x2048 [0, 1, 3, 2] (m ((c.tc : Thread nD τ).loc main_arg3)) transposes_S72x3x2048x4_S72x3x4x2048_0_1_3_2 := by
  unfold_abbrev_sides
  after_results
  try rfl

theorem V_v4 (c : Dev nD) : V m c main_v4
    = transpose S72x3x4x2048 [0, 1, 3, 2] (m ((c.tc : Thread nD τ).loc main_arg4)) transposes_S72x3x2048x4_S72x3x4x2048_0_1_3_2 := by
  unfold_abbrev_sides
  after_results
  try rfl

/-! ## The window's index maps: block `t` is batch row `t` -/

theorem idx0 : ∀ t : Fin grid0.N, cc0_transform_0 (grid0.coords t) 0 = t.val ∧ cc0_transform_0 (grid0.coords t) 1 = 0 ∧ cc0_transform_0 (grid0.coords t) 2 = 0 := by decide +kernel
theorem idx1 : ∀ t : Fin grid0.N, cc0_transform_1 (grid0.coords t) 0 = 0 ∧ cc0_transform_1 (grid0.coords t) 1 = 0 := by decide +kernel
theorem idx2 : ∀ t : Fin grid0.N, cc0_transform_2 (grid0.coords t) 0 = t.val ∧ cc0_transform_2 (grid0.coords t) 1 = 0 ∧ cc0_transform_2 (grid0.coords t) 2 = 0 ∧ cc0_transform_2 (grid0.coords t) 3 = 0 := by decide +kernel
theorem idx3 : ∀ t : Fin grid0.N, cc0_transform_3 (grid0.coords t) 0 = t.val ∧ cc0_transform_3 (grid0.coords t) 1 = 0 ∧ cc0_transform_3 (grid0.coords t) 2 = 0 ∧ cc0_transform_3 (grid0.coords t) 3 = 0 := by decide +kernel
theorem idx4 : ∀ t : Fin grid0.N, cc0_transform_4 (grid0.coords t) 0 = t.val ∧ cc0_transform_4 (grid0.coords t) 1 = 0 ∧ cc0_transform_4 (grid0.coords t) 2 = 0 ∧ cc0_transform_4 (grid0.coords t) 3 = 0 := by decide +kernel
theorem idx5 : ∀ t : Fin grid0.N, cc0_transform_5 (grid0.coords t) 0 = t.val ∧ cc0_transform_5 (grid0.coords t) 1 = 0 ∧ cc0_transform_5 (grid0.coords t) 2 = 0 ∧ cc0_transform_5 (grid0.coords t) 3 = 0 := by decide +kernel

/-- The table entry that the body reads is its own row's. -/
theorem off1 : ∀ t : Fin grid0.N, k0_off1 (grid0.coords t) 0 = t.val := by decide +kernel

theorem emb0 (hO : Ok m) (b : Fin 72) (r : Fin 24) (l : Fin 128) : (((cfgM m hO).win 0).blk (pt b)).view.emb (ix3 0 r l : S1x24x128.Idx) = (ix3 b r l : S72x24x128.Idx) := by
  obtain ⟨e0, e1, e2⟩ := idx0 (pt b)
  have e : (pt b).val = b.val := rfl
  funext a; apply Fin.ext
  match a with
  | ⟨0, _⟩ => show cc0_transform_0 (grid0.coords (pt b)) 0 * 1 + 1 * 0 = b.val; omega
  | ⟨1, _⟩ => show cc0_transform_0 (grid0.coords (pt b)) 1 * 24 + 1 * r.val = r.val; omega
  | ⟨2, _⟩ => show cc0_transform_0 (grid0.coords (pt b)) 2 * 128 + 1 * l.val = l.val; omega

theorem emb1 (hO : Ok m) (b : Fin 72) (y x : Fin 128) : (((cfgM m hO).win 1).blk (pt b)).view.emb (ix2 y x : S128x128.Idx) = (ix2 y x : S128x128.Idx) := by
  obtain ⟨e0, e1⟩ := idx1 (pt b)
  funext a; apply Fin.ext
  match a with
  | ⟨0, _⟩ => show cc0_transform_1 (grid0.coords (pt b)) 0 * 128 + 1 * y.val = y.val; omega
  | ⟨1, _⟩ => show cc0_transform_1 (grid0.coords (pt b)) 1 * 128 + 1 * x.val = x.val; omega

theorem emb2 (hO : Ok m) (b : Fin 72) (h : Fin 3) (n : Fin 96) (t : Fin 2048) : (((cfgM m hO).win 2).blk (pt b)).view.emb (ix4 0 h n t : S1x3x96x2048.Idx) = (ix4 b h n t : S72x3x96x2048.Idx) := by
  obtain ⟨e0, e1, e2, e3⟩ := idx2 (pt b)
  have e : (pt b).val = b.val := rfl
  funext a; apply Fin.ext
  match a with
  | ⟨0, _⟩ => show cc0_transform_2 (grid0.coords (pt b)) 0 * 1 + 1 * 0 = b.val; omega
  | ⟨1, _⟩ => show cc0_transform_2 (grid0.coords (pt b)) 1 * 3 + 1 * h.val = h.val; omega
  | ⟨2, _⟩ => show cc0_transform_2 (grid0.coords (pt b)) 2 * 96 + 1 * n.val = n.val; omega
  | ⟨3, _⟩ => show cc0_transform_2 (grid0.coords (pt b)) 3 * 2048 + 1 * t.val = t.val; omega

theorem emb3 (hO : Ok m) (b : Fin 72) (h : Fin 3) (n : Fin 96) (t : Fin 2048) : (((cfgM m hO).win 3).blk (pt b)).view.emb (ix4 0 h n t : S1x3x96x2048.Idx) = (ix4 b h n t : S72x3x96x2048.Idx) := by
  obtain ⟨e0, e1, e2, e3⟩ := idx3 (pt b)
  have e : (pt b).val = b.val := rfl
  funext a; apply Fin.ext
  match a with
  | ⟨0, _⟩ => show cc0_transform_3 (grid0.coords (pt b)) 0 * 1 + 1 * 0 = b.val; omega
  | ⟨1, _⟩ => show cc0_transform_3 (grid0.coords (pt b)) 1 * 3 + 1 * h.val = h.val; omega
  | ⟨2, _⟩ => show cc0_transform_3 (grid0.coords (pt b)) 2 * 96 + 1 * n.val = n.val; omega
  | ⟨3, _⟩ => show cc0_transform_3 (grid0.coords (pt b)) 3 * 2048 + 1 * t.val = t.val; omega

theorem emb4 (hO : Ok m) (b : Fin 72) (h : Fin 3) (n : Fin 4) (t : Fin 2048) : (((cfgM m hO).win 4).blk (pt b)).view.emb (ix4 0 h n t : S1x3x4x2048.Idx) = (ix4 b h n t : S72x3x4x2048.Idx) := by
  obtain ⟨e0, e1, e2, e3⟩ := idx4 (pt b)
  have e : (pt b).val = b.val := rfl
  funext a; apply Fin.ext
  match a with
  | ⟨0, _⟩ => show cc0_transform_4 (grid0.coords (pt b)) 0 * 1 + 1 * 0 = b.val; omega
  | ⟨1, _⟩ => show cc0_transform_4 (grid0.coords (pt b)) 1 * 3 + 1 * h.val = h.val; omega
  | ⟨2, _⟩ => show cc0_transform_4 (grid0.coords (pt b)) 2 * 4 + 1 * n.val = n.val; omega
  | ⟨3, _⟩ => show cc0_transform_4 (grid0.coords (pt b)) 3 * 2048 + 1 * t.val = t.val; omega

theorem emb5 (hO : Ok m) (b : Fin 72) (h : Fin 3) (n : Fin 4) (t : Fin 2048) : (((cfgM m hO).win 5).blk (pt b)).view.emb (ix4 0 h n t : S1x3x4x2048.Idx) = (ix4 b h n t : S72x3x4x2048.Idx) := by
  obtain ⟨e0, e1, e2, e3⟩ := idx5 (pt b)
  have e : (pt b).val = b.val := rfl
  funext a; apply Fin.ext
  match a with
  | ⟨0, _⟩ => show cc0_transform_5 (grid0.coords (pt b)) 0 * 1 + 1 * 0 = b.val; omega
  | ⟨1, _⟩ => show cc0_transform_5 (grid0.coords (pt b)) 1 * 3 + 1 * h.val = h.val; omega
  | ⟨2, _⟩ => show cc0_transform_5 (grid0.coords (pt b)) 2 * 4 + 1 * n.val = n.val; omega
  | ⟨3, _⟩ => show cc0_transform_5 (grid0.coords (pt b)) 3 * 2048 + 1 * t.val = t.val; omega

/-! ## The blocks, entry by entry -/

theorem split_apply (X : Vec Ideal S72x1x3072 .bf16) (b : Fin 72) (r : Fin 24) (l : Fin 128) :
    shapeCast S72x24x128 X shapeCasts_S72x1x3072_S72x24x128 (ix3 b r l) = X (ix3 b 0 ⟨r.val * 128 + l.val, by omega⟩) := by
  pointwise []

theorem iblk0 (hO : Ok m) (c : Dev nD) (b : Fin 72) (r : Fin 24) (l : Fin 128) :
    (iblk m hO c 0 (pt b) : Vec Ideal S1x24x128 .bf16) (ix3 0 r l) = (m ((c.tc : Thread nD τ).loc main_arg0) : Vec Ideal S72x1x3072 .bf16) (ix3 b 0 ⟨r.val * 128 + l.val, by omega⟩) := by
  refine Eq.trans (b := (V m c main_v0 : Vec Ideal S72x24x128 .bf16) (ix3 b r l)) (congrArg (V m c main_v0 : Vec Ideal S72x24x128 .bf16) (emb0 m hO b r l)) ?_
  rw [V_v0]
  exact split_apply _ b r l

theorem iblk1 (hO : Ok m) (c : Dev nD) (b : Fin 72) : Clean.IsPerm (iblk m hO c 1 (pt b)) := by
  intro y x
  refine Eq.trans (b := (V m c main_cst : Vec Ideal S128x128 .bf16) (ix2 y x)) (congrArg (V m c main_cst : Vec Ideal S128x128 .bf16) (emb1 m hO b y x)) ?_
  rw [V_cst]
  have en : S128x128.numel = 16384 := by decide
  have e : S128x128.rowMajor (ix2 y x) = ⟨128 * y.val + x.val, by omega⟩ := Fin.ext (by
    have e := Shape.rowMajor_val_two (d := ![128, 128]) (ix2 y x)
    have e' : ((⟨2, ![128, 128]⟩ : Shape).rowMajor (ix2 y x)).val = y.val * 128 + x.val := e
    show ((⟨2, ![128, 128]⟩ : Shape).rowMajor (ix2 y x)).val = 128 * y.val + x.val
    omega)
  show (Ideal.ofBits .bf16 (lit0 (S128x128.rowMajor (ix2 y x))) : EReal) = _
  rw [e, Clean.lit0_eq]
  by_cases hy : y = Clean.posF x
  · rw [if_pos hy, if_pos hy]; exact Ideal.ofBits_one_bf16
  · rw [if_neg hy, if_neg hy]; exact Ideal.ofBits_zero_bf16

theorem iblk2 (hO : Ok m) (c : Dev nD) (b : Fin 72) (h : Fin 3) (n : Fin 96) (t : Fin 2048) :
    (iblk m hO c 2 (pt b) : Vec Ideal S1x3x96x2048 .i8) (ix4 0 h n t) = (m ((c.tc : Thread nD τ).loc main_arg1) : Vec Ideal S72x3x2048x96 .i8) (ix4 b h t n) := by
  refine Eq.trans (b := (V m c main_v1 : Vec Ideal S72x3x96x2048 .i8) (ix4 b h n t)) (congrArg (V m c main_v1 : Vec Ideal S72x3x96x2048 .i8) (emb2 m hO b h n t)) ?_
  rw [V_v1]
  refine transpose_apply _ _ _ _ (ix4 b h t n) fun a => ?_
  fin_cases a <;> rfl

theorem iblk3 (hO : Ok m) (c : Dev nD) (b : Fin 72) (h : Fin 3) (n : Fin 96) (t : Fin 2048) :
    (iblk m hO c 3 (pt b) : Vec Ideal S1x3x96x2048 .i8) (ix4 0 h n t) = (m ((c.tc : Thread nD τ).loc main_arg2) : Vec Ideal S72x3x2048x96 .i8) (ix4 b h t n) := by
  refine Eq.trans (b := (V m c main_v2 : Vec Ideal S72x3x96x2048 .i8) (ix4 b h n t)) (congrArg (V m c main_v2 : Vec Ideal S72x3x96x2048 .i8) (emb3 m hO b h n t)) ?_
  rw [V_v2]
  refine transpose_apply _ _ _ _ (ix4 b h t n) fun a => ?_
  fin_cases a <;> rfl

theorem iblk4 (hO : Ok m) (c : Dev nD) (b : Fin 72) (h : Fin 3) (n : Fin 4) (t : Fin 2048) :
    (iblk m hO c 4 (pt b) : Vec Ideal S1x3x4x2048 .i8) (ix4 0 h n t) = (m ((c.tc : Thread nD τ).loc main_arg3) : Vec Ideal S72x3x2048x4 .i8) (ix4 b h t n) := by
  refine Eq.trans (b := (V m c main_v3 : Vec Ideal S72x3x4x2048 .i8) (ix4 b h n t)) (congrArg (V m c main_v3 : Vec Ideal S72x3x4x2048 .i8) (emb4 m hO b h n t)) ?_
  rw [V_v3]
  refine transpose_apply _ _ _ _ (ix4 b h t n) fun a => ?_
  fin_cases a <;> rfl

theorem iblk5 (hO : Ok m) (c : Dev nD) (b : Fin 72) (h : Fin 3) (n : Fin 4) (t : Fin 2048) :
    (iblk m hO c 5 (pt b) : Vec Ideal S1x3x4x2048 .i8) (ix4 0 h n t) = (m ((c.tc : Thread nD τ).loc main_arg4) : Vec Ideal S72x3x2048x4 .i8) (ix4 b h t n) := by
  refine Eq.trans (b := (V m c main_v4 : Vec Ideal S72x3x4x2048 .i8) (ix4 b h n t)) (congrArg (V m c main_v4 : Vec Ideal S72x3x4x2048 .i8) (emb5 m hO b h n t)) ?_
  rw [V_v4]
  refine transpose_apply _ _ _ _ (ix4 b h t n) fun a => ?_
  fin_cases a <;> rfl

/-- The length the body reads at batch row `b` is the table's entry there. -/
theorem lenAt_eq (c : Dev nD) (b : Fin 72) :
    lenAt c (grid0.coords (pt b)) (tbl m 0) = (m ((c.tc : Thread nD τ).loc main_arg5) : Vec Ideal S72 .i32) (ix1 b) := by
  obtain rfl : c = 0 := Subsingleton.elim _ _
  unfold lenAt
  show (V m 0 main_arg5 : Vec Ideal S72 .i32) _ = _
  rw [V_main_arg5]
  refine congrArg (m (((0 : Dev nD).tc : Thread nD τ).loc main_arg5) : Vec Ideal S72 .i32) ?_
  funext a; apply Fin.ext
  match a with
  | ⟨0, _⟩ => show k0_off1 (grid0.coords (pt b)) 0 + 0 = b.val; rw [off1 (pt b)]; rfl

end Cert.KernelIdeal.Run

end
-- ==== Proof.Math.Reference.lean ====
module

public import proofs.«01_k».proof.Proof.Math.Value
public import proofs.«01_k».proof.Proof.Gen.ReferenceIdeal.Run
public import Idealize.ShloMosaic.Lib.Pointwise

@[expose] public section

set_option maxRecDepth 16384

noncomputable section

/-! The reference's values element by element. -/

namespace Cert.ReferenceIdeal.Value

open Cert.ReferenceIdeal Cert.ReferenceIdeal.Gen
open Idealize.ShloMosaic Idealize.ShloMosaic.TcCoe Idealize.ShloMosaic.Tactic Idealize.ShloMosaic.StableHlo
open Cert.Math

variable (V0 : Valuation τ sig (Elt Ideal))

theorem host_mag (c : BitVec 32) :
    (FloatOps.sitofp (F := Ideal) .f32 (IntOp.addi (Scalar.select (IntOp.cmpi .sgt (IntOp.andi (IntOp.shrsi .host c 2#32) 7#32) 0#32) 4#32 0#32) (IntOp.andi c 3#32))
      * Ideal.pow (Ideal.ofBits .f32 0x40000000#32) (FloatOps.sitofp (F := Ideal) .f32 (IntOp.subi (IntOp.maxsi (IntOp.andi (IntOp.shrsi .host c 2#32) 7#32) 1#32) 5#32)) : EReal)
      = mag c := by
  rw [pow_two]
  unfold mag
  rw [exp2_eq]
  rfl

/-- The packed bytes, the scale bytes and the codes of one position of a row of keys. -/
def kBytes (b : Fin 72) (h : Fin 3) (t : Fin 2048) (n : ℕ) : BitVec 8 :=
  V0 (Proc.tc.devRef main_arg1) (ix4 b h t ⟨n % 96, Nat.mod_lt _ (by decide)⟩)

def kScales (b : Fin 72) (h : Fin 3) (t : Fin 2048) (g : ℕ) : BitVec 8 :=
  V0 (Proc.tc.devRef main_arg3) (ix4 b h t ⟨g % 4, Nat.mod_lt _ (by decide)⟩)

theorem kcode_apply (b : Fin 72) (h : Fin 3) (t : Fin 2048) (g : Fin 4) (j : Fin 32) :
    res_main_v24 V0 (ix5 b h t g j) = code (kBytes V0 b h t) (32 * g.val + j.val) := by
  have hg := g.isLt
  have hj := j.isLt
  pointwise [res_main_v24, res_main_v1]
  unfold code kBytes
  have e : (32 * g.val + j.val) / 4 = g.val * 8 + j.val / 4 := by omega
  have e0 : (g.val * 8 + j.val / 4) * 3 % 96 = (g.val * 8 + j.val / 4) * 3 := by omega
  have e1 : ((g.val * 8 + j.val / 4) * 3 + 1) % 96 = (g.val * 8 + j.val / 4) * 3 + 1 := by omega
  have e2 : ((g.val * 8 + j.val / 4) * 3 + 2) % 96 = (g.val * 8 + j.val / 4) * 3 + 2 := by omega
  have e3 : (32 * g.val + j.val) % 4 = j.val % 4 := by omega
  simp only [e, e0, e1, e2, e3]

theorem kmag_apply (b : Fin 72) (h : Fin 3) (t : Fin 2048) (g : Fin 4) (j : Fin 32) :
    (res_main_v48 V0 (ix5 b h t g j) : EReal) = mag (code (kBytes V0 b h t) (32 * g.val + j.val)) := by
  rw [← kcode_apply]
  pointwise [res_main_v48, res_main_v32, id]
  exact host_mag _

/-- The packed bytes, the scale bytes and the codes of one position of a row of values. -/
def vBytes (b : Fin 72) (h : Fin 3) (t : Fin 2048) (n : ℕ) : BitVec 8 :=
  V0 (Proc.tc.devRef main_arg2) (ix4 b h t ⟨n % 96, Nat.mod_lt _ (by decide)⟩)

def vScales (b : Fin 72) (h : Fin 3) (t : Fin 2048) (g : ℕ) : BitVec 8 :=
  V0 (Proc.tc.devRef main_arg4) (ix4 b h t ⟨g % 4, Nat.mod_lt _ (by decide)⟩)

theorem vcode_apply (b : Fin 72) (h : Fin 3) (t : Fin 2048) (g : Fin 4) (j : Fin 32) :
    res_main_v89 V0 (ix5 b h t g j) = code (vBytes V0 b h t) (32 * g.val + j.val) := by
  have hg := g.isLt
  have hj := j.isLt
  pointwise [res_main_v89, res_main_v66]
  unfold code vBytes
  have e : (32 * g.val + j.val) / 4 = g.val * 8 + j.val / 4 := by omega
  have e0 : (g.val * 8 + j.val / 4) * 3 % 96 = (g.val * 8 + j.val / 4) * 3 := by omega
  have e1 : ((g.val * 8 + j.val / 4) * 3 + 1) % 96 = (g.val * 8 + j.val / 4) * 3 + 1 := by omega
  have e2 : ((g.val * 8 + j.val / 4) * 3 + 2) % 96 = (g.val * 8 + j.val / 4) * 3 + 2 := by omega
  have e3 : (32 * g.val + j.val) % 4 = j.val % 4 := by omega
  simp only [e, e0, e1, e2, e3]

theorem vmag_apply (b : Fin 72) (h : Fin 3) (t : Fin 2048) (g : Fin 4) (j : Fin 32) :
    (res_main_v113 V0 (ix5 b h t g j) : EReal) = mag (code (vBytes V0 b h t) (32 * g.val + j.val)) := by
  rw [← vcode_apply]
  pointwise [res_main_v113, res_main_v97, id]
  exact host_mag _

end Cert.ReferenceIdeal.Value

end
-- ==== Proof.Math.RefScore.lean ====
module

public import proofs.«01_k».proof.Proof.Math.Reference
public import Idealize.ShloMosaic.Lib.Pointwise

@[expose] public section

set_option maxRecDepth 16384

noncomputable section

/-! The reference's scores. -/

namespace Cert.ReferenceIdeal.Value

open Cert.ReferenceIdeal Cert.ReferenceIdeal.Gen
open Idealize.ShloMosaic Idealize.ShloMosaic.TcCoe Idealize.ShloMosaic.Tactic Idealize.ShloMosaic.StableHlo
open Cert.Math

/-- The scaled values of a packed array, from its codes, their magnitudes and the scale bytes. -/
def dequant (A : IVec S72x3x2048x4x32 32) (M : FVec Ideal S72x3x2048x4x32 .f32) (S : IVec S72x3x2048x4 8) : FVec Ideal S72x3x2048x128 .bf16 :=
  shapeCast S72x3x2048x128 (mulf (truncf .bf16 (select (cmpi .eq (andi (Host.shrsi A (broadcastInDim S72x3x2048x4x32 ![] bcast_S_S72x3x2048x4x32 (constantI S_ 32 5#32))) (broadcastInDim S72x3x2048x4x32 ![] bcast_S_S72x3x2048x4x32 (constantI S_ 32 1#32))) (broadcastInDim S72x3x2048x4x32 ![] bcast_S_S72x3x2048x4x32 (constantI S_ 32 1#32))) (Host.negf M) M) bitsLt_bf16_f32) (broadcastInDim S72x3x2048x4x32 ![0, 1, 2, 3, 4] bcast_S72x3x2048x4x1_S72x3x2048x4x32_0_1_2_3_4 (broadcastInDim S72x3x2048x4x1 ![0, 1, 2, 3] bcast_S72x3x2048x4_S72x3x2048x4x1_0_1_2_3 (truncf .bf16 (Host.powf (broadcastInDim S72x3x2048x4 ![] bcast_S_S72x3x2048x4 (constant S_ .f32 0x40000000#32)) (sitofp .f32 (subi (extui 32 S natLt_8_32) (broadcastInDim S72x3x2048x4 ![] bcast_S_S72x3x2048x4 (constantI S_ 32 127#32))))) bitsLt_bf16_f32)))) shapeCasts_S72x3x2048x4x32_S72x3x2048x128

theorem dequant_apply (A : IVec S72x3x2048x4x32 32) (M : FVec Ideal S72x3x2048x4x32 .f32) (S : IVec S72x3x2048x4 8) (B T : ℕ → BitVec 8)
    (b : Fin 72) (h : Fin 3) (t : Fin 2048) (x : Fin 128)
    (hA : ∀ g j, A (ix5 b h t g j) = code B (32 * g.val + j.val)) (hM : ∀ g j, (M (ix5 b h t g j) : EReal) = mag (code B (32 * g.val + j.val)))
    (hS : ∀ g, S (ix4 b h t g) = T g.val) :
    (dequant A M S (ix4 b h t x) : EReal) = fp6 (code B x.val) * scale (T (x.val / 32)) := by
  pointwise [dequant]
  rw [hA, hM, hS, pow_scale, show 32 * (x.val / 32) + x.val % 32 = x.val by omega]
  rfl

theorem dot_apply (A : FVec Ideal S72x3x2048x128 .bf16) (Q : FVec Ideal S72x1x3x8x128 .bf16) (b : Fin 72) (h : Fin 3) (s : Fin 8) (t : Fin 2048) :
    (mulf (transpose S72x3x8x1x2048 [0, 1, 4, 3, 2] (Host.dotGeneral (F := Ideal) (φ₁ := .bf16) (φ₂ := .bf16) dot_S72x3x2048x128_S72x1x3x8x128_S72x3x2048x1x8_3_4_2_13_01_02 none A Q)
      transposes_S72x3x2048x1x8_S72x3x8x1x2048_0_1_4_3_2) (broadcastInDim S72x3x8x1x2048 ![] bcast_S_S72x3x8x1x2048 (constant S_ .f32 0x3DB504F3#32)) (ix5 b h s 0 t) : EReal)
      = (∑ d : Fin 128, (A (ix4 b h t d) : EReal) * (Q (ix5 b 0 h s d) : EReal)) * Ideal.ofBits .f32 0x3DB504F3#32 := by
  pointwise []

theorem q_apply (X : FVec Ideal S72x1x3072 .bf16) (b : Fin 72) (h : Fin 3) (s : Fin 8) (d : Fin 128) :
    (shapeCast S72x1x3x8x128 X shapeCasts_S72x1x3072_S72x1x3x8x128 (ix5 b 0 h s d) : EReal) = X (ix3 b 0 ⟨h.val * 1024 + s.val * 128 + d.val, by omega⟩) := by
  pointwise []

variable (V0 : Valuation τ sig (Elt Ideal))

theorem kScales_val (b : Fin 72) (h : Fin 3) (t : Fin 2048) (g : Fin 4) :
    (V0 (Proc.tc.devRef main_arg3) (ix4 b h t g) : BitVec 8) = kScales V0 b h t g.val := by
  have e : (⟨g.val % 4, Nat.mod_lt _ (by decide)⟩ : Fin 4) = g := Fin.ext (Nat.mod_eq_of_lt g.isLt)
  unfold kScales
  rw [e]

theorem vScales_val (b : Fin 72) (h : Fin 3) (t : Fin 2048) (g : Fin 4) :
    (V0 (Proc.tc.devRef main_arg4) (ix4 b h t g) : BitVec 8) = vScales V0 b h t g.val := by
  have e : (⟨g.val % 4, Nat.mod_lt _ (by decide)⟩ : Fin 4) = g := Fin.ext (Nat.mod_eq_of_lt g.isLt)
  unfold vScales
  rw [e]

/-- The scaled keys. -/
def keys : FVec Ideal S72x3x2048x128 .bf16 := dequant (res_main_v24 V0) (res_main_v48 V0) (V0 (Proc.tc.devRef main_arg3))

/-- The scaled values. -/
def values : FVec Ideal S72x3x2048x128 .bf16 := dequant (res_main_v89 V0) (res_main_v113 V0) (V0 (Proc.tc.devRef main_arg4))

theorem keys_apply (b : Fin 72) (h : Fin 3) (t : Fin 2048) (x : Fin 128) :
    (keys V0 (ix4 b h t x) : EReal) = fp6 (code (kBytes V0 b h t) x.val) * scale (kScales V0 b h t (x.val / 32)) :=
  dequant_apply _ _ _ _ _ b h t x (kcode_apply V0 b h t) (kmag_apply V0 b h t) (kScales_val V0 b h t)

theorem values_apply (b : Fin 72) (h : Fin 3) (t : Fin 2048) (x : Fin 128) :
    (values V0 (ix4 b h t x) : EReal) = fp6 (code (vBytes V0 b h t) x.val) * scale (vScales V0 b h t (x.val / 32)) :=
  dequant_apply _ _ _ _ _ b h t x (vcode_apply V0 b h t) (vmag_apply V0 b h t) (vScales_val V0 b h t)

theorem v134_eq : res_main_v134 V0 = mulf (transpose S72x3x8x1x2048 [0, 1, 4, 3, 2] (Host.dotGeneral (F := Ideal) (φ₁ := .bf16) (φ₂ := .bf16) dot_S72x3x2048x128_S72x1x3x8x128_S72x3x2048x1x8_3_4_2_13_01_02 none (keys V0)
      (shapeCast S72x1x3x8x128 (V0 (Proc.tc.devRef main_arg0)) shapeCasts_S72x1x3072_S72x1x3x8x128))
      transposes_S72x3x2048x1x8_S72x3x8x1x2048_0_1_4_3_2) (broadcastInDim S72x3x8x1x2048 ![] bcast_S_S72x3x8x1x2048 (constant S_ .f32 0x3DB504F3#32)) := by
  unfold res_main_v134 keys dequant
  rfl

/-- One score of the reference. -/
def refScore (b : Fin 72) (h : Fin 3) (s : Fin 8) (t : Fin 2048) : EReal :=
  (∑ d : Fin 128, fp6 (code (kBytes V0 b h t) d.val) * scale (kScales V0 b h t (d.val / 32)) * (V0 (Proc.tc.devRef main_arg0) (ix3 b 0 ⟨h.val * 1024 + s.val * 128 + d.val, by omega⟩) : EReal))
    * Ideal.ofBits .f32 0x3DB504F3#32

theorem v134_apply (b : Fin 72) (h : Fin 3) (s : Fin 8) (t : Fin 2048) :
    (res_main_v134 V0 (ix5 b h s 0 t) : EReal) = refScore V0 b h s t := by
  rw [v134_eq]
  refine (dot_apply _ _ b h s t).trans ?_
  unfold refScore
  refine congrArg (· * _) (Finset.sum_congr rfl fun d _ => ?_)
  rw [keys_apply, q_apply]

end Cert.ReferenceIdeal.Value

end
-- ==== Proof.Math.RefOut.lean ====
module

public import proofs.«01_k».proof.Proof.Math.RefScore
public import proofs.«01_k».proof.Proof.Math.Softmax

@[expose] public section

set_option maxRecDepth 16384

noncomputable section

/-! The reference's two results element by element. -/

namespace Cert.ReferenceIdeal.Value

open Cert.ReferenceIdeal Cert.ReferenceIdeal.Gen
open Idealize.ShloMosaic Idealize.ShloMosaic.TcCoe Idealize.ShloMosaic.Tactic Idealize.ShloMosaic.StableHlo
open Cert.Math

theorem reduce_top (Z : FVec Ideal S72x3x8x1x2048 .f32) (b : Fin 72) (h : Fin 3) (s : Fin 8) :
    ((Host.reduce (FloatOps.maximumf (F := Ideal) (φ := .f32)) Z (constant (F := Ideal) S_ .f32 0xFF800000#32) reducesTo_S72x3x8x1x2048_S72x3x8x1_d4 h_S_ : FVec Ideal S72x3x8x1 .f32) (ix4 b h s 0) : EReal)
      = top fun t => (Z (ix5 b h s 0 t) : EReal) := by
  have e0 : (constant (F := Ideal) S_ .f32 0xFF800000#32 (Shape.Idx.first h_S_) : EReal) = ⊥ := neg_inf
  refine (Host.reduce_eq_fold (f := FloatOps.maximumf (F := Ideal) (φ := .f32)) Z (constant (F := Ideal) S_ .f32 0xFF800000#32) reducesTo_S72x3x8x1x2048_S72x3x8x1_d4 h_S_ (ix4 b h s 0)).trans ?_
  rw [e0]
  refine eq_of_forall_ge_iff fun c => ?_
  refine (Finset.fold_max_le c).trans ?_
  unfold top
  rw [Finset.sup_le_iff]
  have hd : ∀ i : S72x3x8x1x2048.Idx, reducesTo_S72x3x8x1x2048_S72x3x8x1_d4.drop i = ix4 (i 0) (i 1) (i 2) (i 3) := by
    intro i
    funext a
    apply Fin.ext
    match a with
    | ⟨0, _⟩ => exact Shape.ReducesTo.drop_apply_val_of_eq _ i 0 0
    | ⟨1, _⟩ => exact Shape.ReducesTo.drop_apply_val_of_eq _ i 1 1
    | ⟨2, _⟩ => exact Shape.ReducesTo.drop_apply_val_of_eq _ i 2 2
    | ⟨3, _⟩ => exact Shape.ReducesTo.drop_apply_val_of_eq _ i 3 3
  constructor
  · rintro ⟨-, hh⟩ t _
    exact hh (ix5 b h s 0 t) (Finset.mem_filter.mpr ⟨Finset.mem_univ _, hd _⟩)
  · intro hh
    refine ⟨bot_le, fun i hi => ?_⟩
    have hi' := (hd i).symm.trans (Finset.mem_filter.mp hi).2
    have ei : i = ix5 b h s 0 (i 4) := by
      funext a
      match a with
      | ⟨0, _⟩ => exact congrFun hi' 0
      | ⟨1, _⟩ => exact congrFun hi' 1
      | ⟨2, _⟩ => exact congrFun hi' 2
      | ⟨3, _⟩ => exact congrFun hi' 3
      | ⟨4, _⟩ => rfl
    rw [ei]
    exact hh (i 4) (Finset.mem_univ _)

theorem exp_apply (Z : FVec Ideal S72x3x8x1x2048 .f32) (R : FVec Ideal S72x3x8x1 .f32) (b : Fin 72) (h : Fin 3) (s : Fin 8) (t : Fin 2048) :
    (Host.exp (subf Z (broadcastInDim S72x3x8x1x2048 ![0, 1, 2, 3, 4] bcast_S72x3x8x1x1_S72x3x8x1x2048_0_1_2_3_4 (broadcastInDim S72x3x8x1x1 ![0, 1, 2, 3] bcast_S72x3x8x1_S72x3x8x1x1_0_1_2_3 (maximumf (broadcastInDim S72x3x8x1 ![] bcast_S_S72x3x8x1 (constant (F := Ideal) S_ .f32 0xFF800000#32)) R)))) (ix5 b h s 0 t) : EReal)
      = Ideal.exp ((Z (ix5 b h s 0 t) : EReal) - max (Ideal.ofBits .f32 0xFF800000#32) (R (ix4 b h s 0))) := by
  pointwise []

theorem select_apply (C : IVec S72x1x1x1x2048 1) (Z : FVec Ideal S72x3x8x1x2048 .f32) (w : BitVec 32) (b : Fin 72) (h : Fin 3) (s : Fin 8) (t : Fin 2048) :
    (select (broadcastInDim S72x3x8x1x2048 ![0, 1, 2, 3, 4] bcast_S72x1x1x1x2048_S72x3x8x1x2048_0_1_2_3_4 C) Z (broadcastInDim S72x3x8x1x2048 ![] bcast_S_S72x3x8x1x2048 (id (constant (F := Ideal) S_ .f32 w))) (ix5 b h s 0 t) : EReal)
      = Scalar.select (C (ix5 b 0 0 0 t)) (Z (ix5 b h s 0 t) : EReal) (Ideal.ofBits .f32 w) := by
  pointwise []
  rfl

theorem scores_shape (Z : FVec Ideal S72x3x8x1x2048 .f32) (b : Fin 72) (r : Fin 24) (t : Fin 2048) :
    (shapeCast S72x24x2048 Z shapeCasts_S72x3x8x1x2048_S72x24x2048 (ix3 b r t) : EReal)
      = Z (ix5 b ⟨r.val / 8, by omega⟩ ⟨r.val % 8, Nat.mod_lt _ (by decide)⟩ 0 t) := by
  pointwise []

theorem out_apply (V : FVec Ideal S72x3x2048x128 .bf16) (Z : FVec Ideal S72x3x8x1x2048 .f32) (b : Fin 72) (r : Fin 24) (y : Fin 128) :
    ((shapeCast S72x24x128 (truncf .bf16 (transpose S72x1x3x8x128 [0, 4, 1, 3, 2] (Host.dotGeneral (F := Ideal) (φ₁ := .bf16) (φ₂ := .bf16) dot_S72x3x2048x128_S72x3x8x1x2048_S72x3x128x8x1_2_4_3_23_01_01 none V (truncf .bf16 (Host.divf Z (broadcastInDim S72x3x8x1x2048 ![0, 1, 2, 3, 4] bcast_S72x3x8x1x1_S72x3x8x1x2048_0_1_2_3_4 (broadcastInDim S72x3x8x1x1 ![0, 1, 2, 3] bcast_S72x3x8x1_S72x3x8x1x1_0_1_2_3 (Host.reduceAdd Z (constant S_ .f32 0x00000000#32) reducesTo_S72x3x8x1x2048_S72x3x8x1_d4 h_S_)))) bitsLt_bf16_f32)) transposes_S72x3x128x8x1_S72x1x3x8x128_0_4_1_3_2) bitsLt_bf16_f32) shapeCasts_S72x1x3x8x128_S72x24x128 : FVec Ideal S72x24x128 .bf16) (ix3 b r y) : EReal)
      = ∑ t : Fin 2048, (V (ix4 b ⟨r.val / 8, by omega⟩ t y) : EReal) * Ideal.div (Z (ix5 b ⟨r.val / 8, by omega⟩ ⟨r.val % 8, Nat.mod_lt _ (by decide)⟩ 0 t))
          (∑ x : Fin 2048, (Z (ix5 b ⟨r.val / 8, by omega⟩ ⟨r.val % 8, Nat.mod_lt _ (by decide)⟩ 0 x) : EReal)) := by
  pointwise []

variable (V0 : Valuation τ sig (Elt Ideal))

theorem lengths_apply (L : IVec S72 32) (b : Fin 72) (t : Fin 2048) :
    broadcastInDim S72x1x1x1x2048 ![0, 4] bcast_S72x2048_S72x1x1x1x2048_0_4 (cmpi .slt (broadcastInDim S72x2048 ![0, 1] bcast_S1x2048_S72x2048_0_1 (broadcastInDim S1x2048 ![1] bcast_S2048_S1x2048_1 (iotaInDim S2048 32 0))) (broadcastInDim S72x2048 ![0, 1] bcast_S72x1_S72x2048_0_1 (broadcastInDim S72x1 ![0] bcast_S72_S72x1_0 L))) (ix5 b 0 0 0 t)
      = IntOp.cmpi .slt (BitVec.ofNat 32 t.val) (L (ix1 b)) := by
  pointwise []

/-- Whether position `t` is below row `b`'s length. -/
def refBelow (b : Fin 72) (t : Fin 2048) : BitVec 1 := IntOp.cmpi .slt (BitVec.ofNat 32 t.val) (V0 (Proc.tc.devRef main_arg5) (ix1 b))

/-- The score of a position below the length, elsewhere the lowest value. -/
def refLogit (b : Fin 72) (h : Fin 3) (s : Fin 8) (t : Fin 2048) : EReal := Scalar.select (refBelow V0 b t) (refScore V0 b h s t) (⊥ : EReal)

theorem v141_apply (b : Fin 72) (t : Fin 2048) : res_main_v141 V0 (ix5 b 0 0 0 t) = refBelow V0 b t := by
  unfold res_main_v141
  exact lengths_apply _ b t

theorem v142_apply (b : Fin 72) (h : Fin 3) (s : Fin 8) (t : Fin 2048) : (res_main_v142 V0 (ix5 b h s 0 t) : EReal) = refLogit V0 b h s t := by
  unfold res_main_v142
  refine (select_apply _ _ _ b h s t).trans ?_
  rw [v141_apply, v134_apply, neg_inf]
  rfl

theorem v149_apply (b : Fin 72) (h : Fin 3) (s : Fin 8) (t : Fin 2048) :
    (res_main_v149 V0 (ix5 b h s 0 t) : EReal) = Ideal.exp (refLogit V0 b h s t - top fun t => refLogit V0 b h s t) := by
  unfold res_main_v149
  refine (exp_apply _ _ b h s t).trans ?_
  have e : (top fun t => (res_main_v142 V0 (ix5 b h s 0 t) : EReal)) = top fun t => refLogit V0 b h s t := congrArg top (funext fun t => v142_apply V0 b h s t)
  rw [reduce_top, e, v142_apply, neg_inf, max_eq_right bot_le]

/-- The reference's first result. -/
def res1 : FVec Ideal S72x24x128 .bf16 :=
  shapeCast S72x24x128 (truncf .bf16 (transpose S72x1x3x8x128 [0, 4, 1, 3, 2] (Host.dotGeneral (F := Ideal) (φ₁ := .bf16) (φ₂ := .bf16) dot_S72x3x2048x128_S72x3x8x1x2048_S72x3x128x8x1_2_4_3_23_01_01 none (values V0) (truncf .bf16 (Host.divf (res_main_v149 V0) (broadcastInDim S72x3x8x1x2048 ![0, 1, 2, 3, 4] bcast_S72x3x8x1x1_S72x3x8x1x2048_0_1_2_3_4 (broadcastInDim S72x3x8x1x1 ![0, 1, 2, 3] bcast_S72x3x8x1_S72x3x8x1x1_0_1_2_3 (Host.reduceAdd (res_main_v149 V0) (constant S_ .f32 0x00000000#32) reducesTo_S72x3x8x1x2048_S72x3x8x1_d4 h_S_)))) bitsLt_bf16_f32)) transposes_S72x3x128x8x1_S72x1x3x8x128_0_4_1_3_2) bitsLt_bf16_f32) shapeCasts_S72x1x3x8x128_S72x24x128

theorem res1_apply (b : Fin 72) (r : Fin 24) (y : Fin 128) :
    (res1 V0 (ix3 b r y) : EReal) = attend (fun t => refLogit V0 b ⟨r.val / 8, by omega⟩ ⟨r.val % 8, Nat.mod_lt _ (by decide)⟩ t)
      (fun t => fp6 (code (vBytes V0 b ⟨r.val / 8, by omega⟩ t) y.val) * scale (vScales V0 b ⟨r.val / 8, by omega⟩ t (y.val / 32))) := by
  unfold res1
  refine (out_apply _ _ b r y).trans ?_
  unfold attend weight
  simp only [values_apply, v149_apply]

/-- The reference's second result. -/
def res2 : FVec Ideal S72x24x2048 .f32 :=
  shapeCast S72x24x2048 (select (broadcastInDim S72x3x8x1x2048 ![0, 1, 2, 3, 4] bcast_S72x1x1x1x2048_S72x3x8x1x2048_0_1_2_3_4 (res_main_v141 V0)) (res_main_v134 V0) (broadcastInDim S72x3x8x1x2048 ![] bcast_S_S72x3x8x1x2048 (id (constant (F := Ideal) S_ .f32 0x00000000#32)))) shapeCasts_S72x3x8x1x2048_S72x24x2048

theorem res2_apply (b : Fin 72) (r : Fin 24) (t : Fin 2048) :
    (res2 V0 (ix3 b r t) : EReal) = Scalar.select (refBelow V0 b t) (refScore V0 b ⟨r.val / 8, by omega⟩ ⟨r.val % 8, Nat.mod_lt _ (by decide)⟩ t) (0 : EReal) := by
  unfold res2
  refine (scores_shape _ b r t).trans ((select_apply _ _ _ b _ _ t).trans ?_)
  rw [v141_apply, v134_apply, Ideal.ofBits_zero_f32]

/-- Every run of the reference ends with these two results and its arguments as they were. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v158) = res1 (launchContents m c)
      ∧ r.2.mem ((c.tc : Thread nD τ).loc main_v160) = res2 (launchContents m c) :=
  (θ_run defs _ _).mono (fun _ h c => ⟨(h c).1.trans rfl, (h c).2.1.trans rfl⟩) (run (F := Ideal) m ρ)

end Cert.ReferenceIdeal.Value

end
-- ==== Proof.Agree.lean ====
module

public import proofs.«01_k».proof.Defs
public import proofs.«01_k».proof.Proof.Gen.Pre_scales_finite
public import proofs.«01_k».proof.Proof.KernelIdeal.Blocks
public import proofs.«01_k».proof.Proof.Math.RefOut
public import Idealize.ShloMosaic.Lib.ReduceAll

@[expose] public section

set_option maxRecDepth 16384

noncomputable section

/-! The two results of the kernel are the two results of the reference. -/

namespace Cert.Agree

open Idealize.ShloMosaic Idealize.ShloMosaic.TcCoe Idealize.ShloMosaic.Tactic
open Cert.Math Cert.KernelIdeal.Run Cert.KernelIdeal.Clean

/-! ## The scales -/

/-- The precondition, entry by entry. -/
theorem bounds (X0 : FVec Ideal Pre_scales_finite.S72x1x3072 .bf16) (X1 X2 : IVec Pre_scales_finite.S72x3x2048x96 8)
    (X3 X4 : IVec Pre_scales_finite.S72x3x2048x4 8) (X5 : IVec Pre_scales_finite.S72 32)
    (hp : Pre_scales_finite.fn (F := Ideal) X0 X1 X2 X3 X4 X5 = fun _ => 1#1) (b : Fin 72) (h : Fin 3) (t : Fin 2048) (g : Fin 4) :
    (1 ≤ (X3 (ix4 b h t g)).toNat ∧ (X3 (ix4 b h t g)).toNat ≤ 254) ∧ (1 ≤ (X4 (ix4 b h t g)).toNat ∧ (X4 (ix4 b h t g)).toNat ≤ 254) := by
  haveI : Subsingleton Pre_scales_finite.S_.Idx := ⟨fun a b => funext fun i => i.elim0⟩
  have e := Host.reduce_andi_all _ _ _ _ _ (congrFun hp (fun i => i.elim0)) (ix4 b h t g)
  have e' : IntOp.andi (IntOp.andi (IntOp.andi (IntOp.cmpi .uge (X3 (ix4 b h t g)) 1#8) (IntOp.cmpi .ule (X3 (ix4 b h t g)) 254#8))
      (IntOp.cmpi .uge (X4 (ix4 b h t g)) 1#8)) (IntOp.cmpi .ule (X4 (ix4 b h t g)) 254#8) = 1#1 := e
  generalize X3 (ix4 b h t g) = p at e' ⊢
  generalize X4 (ix4 b h t g) = q at e' ⊢
  clear e hp
  simp only [WordCmp.cmpi_uge_eq, WordCmp.cmpi_ule_eq] at e'
  have h1 : (1#8 : BitVec 8).toNat = 1 := rfl
  have h2 : (254#8 : BitVec 8).toNat = 254 := rfl
  rw [h1, h2] at e'
  have conj : ∀ a b c d : Bool, IntOp.andi (IntOp.andi (IntOp.andi (BitVec.ofBool a) (BitVec.ofBool b)) (BitVec.ofBool c)) (BitVec.ofBool d) = 1#1 →
      (a = true ∧ b = true) ∧ (c = true ∧ d = true) := by decide
  have r := conj _ _ _ _ e'
  simpa only [decide_eq_true_eq] using r

variable (m : (ℓ : Loc KernelIdeal.nD KernelIdeal.τ KernelIdeal.sig) → Buf (Elt Ideal) ℓ)

theorem finite4 (hO : Ok m) (c : Dev KernelIdeal.nD) (hp : Pre_KernelIdeal_scales_finite m) (b : Fin 72) : Finite4 (iblk m hO c 4 (pt b)) := by
  intro j
  idx_vars j
  obtain rfl : j0 = 0 := Subsingleton.elim _ _
  rw [show (iblk m hO c 4 (pt b) : Vec Ideal KernelIdeal.S1x3x4x2048 .i8) (ix4 0 j1 j2 j3) = _ from iblk4 m hO c b j1 j2 j3]
  exact (bounds _ _ _ _ _ _ (hp c) b j1 j3 j2).1

theorem finite5 (hO : Ok m) (c : Dev KernelIdeal.nD) (hp : Pre_KernelIdeal_scales_finite m) (b : Fin 72) : Finite4 (iblk m hO c 5 (pt b)) := by
  intro j
  idx_vars j
  obtain rfl : j0 = 0 := Subsingleton.elim _ _
  rw [show (iblk m hO c 5 (pt b) : Vec Ideal KernelIdeal.S1x3x4x2048 .i8) (ix4 0 j1 j2 j3) = _ from iblk5 m hO c b j1 j2 j3]
  exact (bounds _ _ _ _ _ _ (hp c) b j1 j3 j2).2

/-! ## What the two sides read -/

theorem mod_fin {n : ℕ} (t : Fin n) (h : t.val % n < n) : (⟨t.val % n, h⟩ : Fin n) = t := Fin.ext (Nat.mod_eq_of_lt t.isLt)

section
variable (V0 : Valuation ReferenceIdeal.τ ReferenceIdeal.sig (Elt Ideal)) (hO : Ok m) (c : Dev KernelIdeal.nD)

theorem keys_eq (e : V0 (Proc.tc.devRef ReferenceIdeal.main_arg1) = m ((c.tc : Thread KernelIdeal.nD KernelIdeal.τ).loc KernelIdeal.main_arg1))
    (b : Fin 72) (h : Fin 3) (t : Fin 2048) : column (iblk m hO c 2 (pt b)) h t.val = ReferenceIdeal.Value.kBytes V0 b h t := by
  funext n
  unfold column ReferenceIdeal.Value.kBytes
  rw [mod_fin t, e]
  exact iblk2 m hO c b h _ t

theorem values_eq (e : V0 (Proc.tc.devRef ReferenceIdeal.main_arg2) = m ((c.tc : Thread KernelIdeal.nD KernelIdeal.τ).loc KernelIdeal.main_arg2))
    (b : Fin 72) (h : Fin 3) (t : Fin 2048) : column (iblk m hO c 3 (pt b)) h t.val = ReferenceIdeal.Value.vBytes V0 b h t := by
  funext n
  unfold column ReferenceIdeal.Value.vBytes
  rw [mod_fin t, e]
  exact iblk3 m hO c b h _ t

theorem keyScales_eq (e : V0 (Proc.tc.devRef ReferenceIdeal.main_arg3) = m ((c.tc : Thread KernelIdeal.nD KernelIdeal.τ).loc KernelIdeal.main_arg3))
    (b : Fin 72) (h : Fin 3) (t : Fin 2048) : scaleColumn (iblk m hO c 4 (pt b)) h t.val = ReferenceIdeal.Value.kScales V0 b h t := by
  funext n
  unfold scaleColumn ReferenceIdeal.Value.kScales
  rw [mod_fin t, e]
  exact iblk4 m hO c b h _ t

theorem valueScales_eq (e : V0 (Proc.tc.devRef ReferenceIdeal.main_arg4) = m ((c.tc : Thread KernelIdeal.nD KernelIdeal.τ).loc KernelIdeal.main_arg4))
    (b : Fin 72) (h : Fin 3) (t : Fin 2048) : scaleColumn (iblk m hO c 5 (pt b)) h t.val = ReferenceIdeal.Value.vScales V0 b h t := by
  funext n
  unfold scaleColumn ReferenceIdeal.Value.vScales
  rw [mod_fin t, e]
  exact iblk5 m hO c b h _ t

theorem below_eq (e : V0 (Proc.tc.devRef ReferenceIdeal.main_arg5) = m ((c.tc : Thread KernelIdeal.nD KernelIdeal.τ).loc KernelIdeal.main_arg5))
    (b : Fin 72) (t : Fin 2048) : below (lenAt c (KernelIdeal.grid0.coords (pt b)) (tbl m 0)) t.val = ReferenceIdeal.Value.refBelow V0 b t := by
  unfold below ReferenceIdeal.Value.refBelow
  rw [lenAt_eq, e]

theorem query_eq (e : V0 (Proc.tc.devRef ReferenceIdeal.main_arg0) = m ((c.tc : Thread KernelIdeal.nD KernelIdeal.τ).loc KernelIdeal.main_arg0))
    (b : Fin 72) (h : Fin 3) (s : Fin 8) (d : Fin 128) (h1 : (8 * h.val + s.val) % 24 < 24) (h2 : d.val % 128 < 128) (h3 : h.val * 1024 + s.val * 128 + d.val < 3072) :
    ((iblk m hO c 0 (pt b) : Vec Ideal KernelIdeal.S1x24x128 .bf16) (ix3 0 ⟨(8 * h.val + s.val) % 24, h1⟩ ⟨d.val % 128, h2⟩) : EReal)
      = V0 (Proc.tc.devRef ReferenceIdeal.main_arg0) (ix3 b 0 ⟨h.val * 1024 + s.val * 128 + d.val, h3⟩) := by
  rw [e, mod_fin d]
  refine (iblk0 m hO c b _ d).trans ?_
  have hh := h.isLt
  have hs := s.isLt
  have r : (8 * h.val + s.val) % 24 = 8 * h.val + s.val := Nat.mod_eq_of_lt (by omega)
  have f : (⟨(8 * h.val + s.val) % 24 * 128 + d.val, by omega⟩ : Fin 3072) = ⟨h.val * 1024 + s.val * 128 + d.val, h3⟩ := Fin.ext (by show (8 * h.val + s.val) % 24 * 128 + d.val = h.val * 1024 + s.val * 128 + d.val; omega)
  exact congrArg (fun q : Fin 3072 => (m ((c.tc : Thread KernelIdeal.nD KernelIdeal.τ).loc KernelIdeal.main_arg0) : Vec Ideal KernelIdeal.S72x1x3072 .bf16) (ix3 b 0 q)) f

end

/-! ## The results -/

section
open Cert.KernelIdeal (S1x24x128 S128x128 S1x3x96x2048 S1x3x4x2048)

variable (n : BitVec 32) (x0 : Vec Ideal S1x24x128 .bf16) (x1 : Vec Ideal S128x128 .bf16) (x2 x3 : Vec Ideal S1x3x96x2048 .i8) (x4 x5 : Vec Ideal S1x3x4x2048 .i8)
  (V0 : Valuation ReferenceIdeal.τ ReferenceIdeal.sig (Elt Ideal)) (b : Fin 72)
  (hP : IsPerm x1) (hS : Finite4 x4) (hS' : Finite4 x5)
  (hn : ∀ t : Fin 2048, below n t.val = ReferenceIdeal.Value.refBelow V0 b t)
  (hq : ∀ (h : Fin 3) (s : Fin 8) (d : Fin 128) (h1 : (8 * h.val + s.val) % 24 < 24) (h2 : d.val % 128 < 128) (h3 : h.val * 1024 + s.val * 128 + d.val < 3072),
    (x0 (ix3 0 ⟨(8 * h.val + s.val) % 24, h1⟩ ⟨d.val % 128, h2⟩) : EReal) = V0 (Proc.tc.devRef ReferenceIdeal.main_arg0) (ix3 b 0 ⟨h.val * 1024 + s.val * 128 + d.val, h3⟩))
  (hk : ∀ (h : Fin 3) (t : Fin 2048), column x2 h t.val = ReferenceIdeal.Value.kBytes V0 b h t)
  (hv : ∀ (h : Fin 3) (t : Fin 2048), column x3 h t.val = ReferenceIdeal.Value.vBytes V0 b h t)
  (hks : ∀ (h : Fin 3) (t : Fin 2048), scaleColumn x4 h t.val = ReferenceIdeal.Value.kScales V0 b h t)
  (hvs : ∀ (h : Fin 3) (t : Fin 2048), scaleColumn x5 h t.val = ReferenceIdeal.Value.vScales V0 b h t)

include hq hk hks in
/-- A row's score at a position. -/
theorem rowScore_eq (h : Fin 3) (s : Fin 8) (t : Fin 2048) : rowScore x0 x2 x4 h s t.val = ReferenceIdeal.Value.refScore V0 b h s t := by
  unfold rowScore score ReferenceIdeal.Value.refScore
  rw [hk, hks]
  refine congrArg (· * _) (Finset.sum_congr rfl fun d _ => ?_)
  exact congrArg (fun z : EReal => fp6 (code (ReferenceIdeal.Value.kBytes V0 b h t) d.val) * scale (ReferenceIdeal.Value.kScales V0 b h t (d.val / 32)) * z) (hq h s d _ _ _)

theorem head_fin (r : Fin 24) (h : r.val / 8 % 3 < 3) (h' : r.val / 8 < 3) : (⟨r.val / 8 % 3, h⟩ : Fin 3) = ⟨r.val / 8, h'⟩ := Fin.ext (Nat.mod_eq_of_lt h')

include hP hS hS' hn hq hk hv hks hvs in
/-- One row of the attention output. -/
theorem out8_eq (r : Fin 24) (y : Fin 128) : (out8 n x0 x1 x2 x3 x4 x5 (ix3 0 r y) : EReal) = ReferenceIdeal.Value.res1 V0 (ix3 b r y) := by
  refine Eq.trans ?_ (ReferenceIdeal.Value.res1_apply V0 b r y).symm
  refine Eq.trans (b := (headOut n x0 x1 x2 x3 x4 x5 ⟨r.val / 8 % 3, Nat.mod_lt _ (by decide)⟩ (ix3 0 ⟨r.val % 8, Nat.mod_lt _ (by decide)⟩ y) : EReal)) rfl ?_
  rw [head_fin r _ (by omega)]
  refine (headOut_apply n x0 x1 x2 x3 x4 x5 _ hP hS hS' _ _).trans ?_
  congr 1
  · funext t
    unfold logit ReferenceIdeal.Value.refLogit
    rw [hn, rowScore_eq x0 x2 x4 V0 b hq hk hks]
  · funext t
    rw [hv, hvs]

include hP hS hn hq hk hks in
/-- One row of the scores. -/
theorem out9_eq (r : Fin 24) (t : Fin 2048) : (out9 n x0 x1 x2 x4 (ix3 0 r t) : EReal) = ReferenceIdeal.Value.res2 V0 (ix3 b r t) := by
  refine Eq.trans ?_ (ReferenceIdeal.Value.res2_apply V0 b r t).symm
  refine Eq.trans (b := (zeroed n (t.val / 256) (headScores x0 x1 x2 x4 ⟨r.val / 8 % 3, Nat.mod_lt _ (by decide)⟩ (t.val / 256))
    (ix3 0 ⟨r.val % 8, Nat.mod_lt _ (by decide)⟩ ⟨t.val % 256, Nat.mod_lt _ (by decide)⟩) : EReal)) rfl ?_
  rw [head_fin r _ (by omega)]
  refine (zeroed_apply _ _ _ _ _).trans ?_
  rw [scores_apply x0 x1 x2 x4 hP hS]
  show Scalar.select (below n (256 * (t.val / 256) + t.val % 256)) (rowScore x0 x2 x4 _ _ (256 * (t.val / 256) + t.val % 256)) (0 : EReal) = _
  rw [Nat.div_add_mod, hn, rowScore_eq x0 x2 x4 V0 b hq hk hks]

end

section
variable (V0 : Valuation ReferenceIdeal.τ ReferenceIdeal.sig (Elt Ideal)) (hO : Ok m) (c : Dev KernelIdeal.nD)
  (hp : Pre_KernelIdeal_scales_finite m)
  (e0 : V0 (Proc.tc.devRef ReferenceIdeal.main_arg0) = m ((c.tc : Thread KernelIdeal.nD KernelIdeal.τ).loc KernelIdeal.main_arg0))
  (e1 : V0 (Proc.tc.devRef ReferenceIdeal.main_arg1) = m ((c.tc : Thread KernelIdeal.nD KernelIdeal.τ).loc KernelIdeal.main_arg1))
  (e2 : V0 (Proc.tc.devRef ReferenceIdeal.main_arg2) = m ((c.tc : Thread KernelIdeal.nD KernelIdeal.τ).loc KernelIdeal.main_arg2))
  (e3 : V0 (Proc.tc.devRef ReferenceIdeal.main_arg3) = m ((c.tc : Thread KernelIdeal.nD KernelIdeal.τ).loc KernelIdeal.main_arg3))
  (e4 : V0 (Proc.tc.devRef ReferenceIdeal.main_arg4) = m ((c.tc : Thread KernelIdeal.nD KernelIdeal.τ).loc KernelIdeal.main_arg4))
  (e5 : V0 (Proc.tc.devRef ReferenceIdeal.main_arg5) = m ((c.tc : Thread KernelIdeal.nD KernelIdeal.τ).loc KernelIdeal.main_arg5))

include hp e0 e1 e2 e3 e4 e5 in
theorem val8_eq : (val8 m hO c : Vec Ideal KernelIdeal.S72x24x128 .bf16) = ReferenceIdeal.Value.res1 V0 := by
  funext j
  idx_vars j
  refine Eq.trans (b := (o8 m hO c (pt j0) (ix3 0 j1 j2) : EReal)) rfl ?_
  unfold o8
  exact out8_eq _ _ _ _ _ _ _ V0 j0 (iblk1 m hO c j0) (finite4 m hO c hp j0) (finite5 m hO c hp j0) (below_eq m V0 c e5 j0) (query_eq m V0 hO c e0 j0)
    (keys_eq m V0 hO c e1 j0) (values_eq m V0 hO c e2 j0) (keyScales_eq m V0 hO c e3 j0) (valueScales_eq m V0 hO c e4 j0) j1 j2

include hp e0 e1 e3 e5 in
theorem val9_eq : (val9 m hO c : Vec Ideal KernelIdeal.S72x24x2048 .f32) = ReferenceIdeal.Value.res2 V0 := by
  funext j
  idx_vars j
  refine Eq.trans (b := (o9 m hO c (pt j0) (ix3 0 j1 j2) : EReal)) rfl ?_
  unfold o9
  exact out9_eq _ _ _ _ _ V0 j0 (iblk1 m hO c j0) (finite4 m hO c hp j0) (below_eq m V0 c e5 j0) (query_eq m V0 hO c e0 j0)
    (keys_eq m V0 hO c e1 j0) (keyScales_eq m V0 hO c e3 j0) j1 j2

end

/-- The algebraic claim. -/
theorem algebraic : Cert.algebraic_KernelIdeal_ReferenceIdeal_pre_scales_finite := fun m g m' g' hp hm =>
  ⟨fun c => val8 m trivial c, fun c => val9 m trivial c,
    (θ_run KernelIdeal.defs _ _).mono (fun r h => h.1) (Cert.KernelIdeal.Run.run m g trivial),
    (θ_run ReferenceIdeal.defs _ _).mono
      (fun r h c => by
        obtain ⟨e0, e1, e2, e3, e4, e5⟩ := hm c
        exact ⟨(h c).1.trans (val8_eq m (StableHlo.launchContents m' c) trivial c hp e0 e1 e2 e3 e4 e5).symm,
          (h c).2.1.trans (val9_eq m (StableHlo.launchContents m' c) trivial c hp e0 e1 e3 e5).symm, (h c).2.2⟩)
      (ReferenceIdeal.Value.run (F := Ideal) m' g')⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_scales_finite
public import proofs.«01_k».proof.Proof.Kernel.Frame
public import proofs.«01_k».proof.Proof.KernelIdeal.FrameV
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The kernel's frame. -/
theorem frame_p : Cert.quiescent_Kernel := fun m ρ _ => Cert.Kernel.Run.frame m ρ trivial

/-- The ideal kernel's frame. -/
theorem frame_pi : Cert.quiescent_KernelIdeal := fun m ρ _ => Cert.KernelIdeal.Run.frame m ρ trivial

/-- The reference's frame: it is host code alone and has no semaphores. -/
theorem frame_r : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The ideal kernel differs from the kernel by the mask constant, read as minus infinity. -/
theorem preserves : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts, Cert.Pre_scales_finite.Gen.facts,
  frame_p, frame_pi, fun m ρ _ => frame_pi m ρ trivial, frame_r, fun m ρ _ => frame_r m ρ trivial, preserves, Cert.Agree.algebraic⟩

end Cert.Proof

end
